-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x384x14848 : Shape := ⟨3, ![1, 384, 14848]⟩
abbrev S14848x8192 : Shape := ⟨2, ![14848, 8192]⟩
abbrev S116x64 : Shape := ⟨2, ![116, 64]⟩
abbrev S14848x16 : Shape := ⟨2, ![14848, 16]⟩
abbrev S16x8192 : Shape := ⟨2, ![16, 8192]⟩
abbrev S_ : Shape := ⟨0, ![]⟩

class Facts : Prop where
  bitsLt_bf16_f32 : FTy.bits .bf16 < FTy.bits .f32
  bcast_S_S1x384x14848 : S_.BroadcastsInDim S1x384x14848 (![] : Fin 0 → Fin S1x384x14848.rank)

variable [Facts]

def fn {F : FTy → Type} [FloatOps F] (main_arg0 : FVec F S1x384x14848 .bf16) (main_arg1 : FVec F S14848x8192 .fp8e4m3) (main_arg2 : FVec F S116x64 .f32) (main_arg3 : FVec F S14848x16 .bf16) (main_arg4 : FVec F S16x8192 .bf16) : IVec S1x384x14848 1 :=
  let main_v0 : FVec F S1x384x14848 .f32 := (extf .f32 · bitsLt_bf16_f32) main_arg0
  let main_v1 : FVec F S1x384x14848 .f32 := Host.absf main_v0
  let main_cst : FVec F S_ .f32 := constant S_ .f32 0x7F7F0000#32
  let main_v2 : FVec F S1x384x14848 .f32 := broadcastInDim S1x384x14848 ![] bcast_S_S1x384x14848 main_cst
  let main_v3 : IVec S1x384x14848 1 := cmpf .ole main_v1 main_v2
  main_v3
-- ==== Kernel.lean ====
abbrev S1x384x14848 : Shape := ⟨3, ![1, 384, 14848]⟩
abbrev S14848x8192 : Shape := ⟨2, ![14848, 8192]⟩
abbrev S116x64 : Shape := ⟨2, ![116, 64]⟩
abbrev S14848x16 : Shape := ⟨2, ![14848, 16]⟩
abbrev S16x8192 : Shape := ⟨2, ![16, 8192]⟩
abbrev S384x14848 : Shape := ⟨2, ![384, 14848]⟩
abbrev S384x8192 : Shape := ⟨2, ![384, 8192]⟩
abbrev S384x128 : Shape := ⟨2, ![384, 128]⟩
abbrev S14848x512 : Shape := ⟨2, ![14848, 512]⟩
abbrev S16x512 : Shape := ⟨2, ![16, 512]⟩
abbrev S384x512 : Shape := ⟨2, ![384, 512]⟩
abbrev S384x16 : Shape := ⟨2, ![384, 16]⟩
abbrev S384 : Shape := ⟨1, ![384]⟩
abbrev S384x1 : Shape := ⟨2, ![384, 1]⟩
abbrev S1x1 : Shape := ⟨2, ![1, 1]⟩
abbrev S128x128 : Shape := ⟨2, ![128, 128]⟩
abbrev S128x512 : Shape := ⟨2, ![128, 512]⟩
abbrev S2048x512 : Shape := ⟨2, ![2048, 512]⟩
abbrev S384x2048 : Shape := ⟨2, ![384, 2048]⟩
abbrev S512x512 : Shape := ⟨2, ![512, 512]⟩
abbrev S1x384x8192 : Shape := ⟨3, ![1, 384, 8192]⟩
abbrev S384x116 : Shape := ⟨2, ![384, 116]⟩
abbrev S1x384x116 : Shape := ⟨3, ![1, 384, 116]⟩

abbrev nBuf : Space → Nat
  | .hbm => 13
  | .vmem => 12
  | .smem => 1
  | _ => 0

abbrev bufTy : (tb : Table) → Fin (tcTables nBuf tb) → BufTy
  | .hbm, ⟨0, _⟩ => ⟨S1x384x14848, .bf16⟩
  | .hbm, ⟨1, _⟩ => ⟨S14848x8192, .fp8e4m3⟩
  | .hbm, ⟨2, _⟩ => ⟨S116x64, .f32⟩
  | .hbm, ⟨3, _⟩ => ⟨S14848x16, .bf16⟩
  | .hbm, ⟨4, _⟩ => ⟨S16x8192, .bf16⟩
  | .hbm, ⟨5, _⟩ => ⟨S384x14848, .bf16⟩
  | .hbm, ⟨6, _⟩ => ⟨S384x8192, .bf16⟩
  | .hbm, ⟨7, _⟩ => ⟨S384x14848, .fp8e4m3⟩
  | .hbm, ⟨8, _⟩ => ⟨S384x128, .f32⟩
  | .hbm, ⟨9, _⟩ => ⟨S1x384x8192, .bf16⟩
  | .hbm, ⟨10, _⟩ => ⟨S1x384x14848, .fp8e4m3⟩
  | .hbm, ⟨11, _⟩ => ⟨S384x116, .f32⟩
  | .hbm, ⟨12, _⟩ => ⟨S1x384x116, .f32⟩
  | .local _ .vmem, ⟨0, _⟩ => ⟨S384x14848, .bf16⟩
  | .local _ .vmem, ⟨1, _⟩ => ⟨S14848x512, .fp8e4m3⟩
  | .local _ .vmem, ⟨2, _⟩ => ⟨S14848x512, .fp8e4m3⟩
  | .local _ .vmem, ⟨3, _⟩ => ⟨S14848x16, .bf16⟩
  | .local _ .vmem, ⟨4, _⟩ => ⟨S16x512, .bf16⟩
  | .local _ .vmem, ⟨5, _⟩ => ⟨S16x512, .bf16⟩
  | .local _ .vmem, ⟨6, _⟩ => ⟨S384x512, .bf16⟩
  | .local _ .vmem, ⟨7, _⟩ => ⟨S384x512, .bf16⟩
  | .local _ .vmem, ⟨8, _⟩ => ⟨S384x14848, .fp8e4m3⟩
  | .local _ .vmem, ⟨9, _⟩ => ⟨S384x128, .f32⟩
  | .local _ .vmem, ⟨10, _⟩ => ⟨S384x14848, .bf16⟩
  | .local _ .vmem, ⟨11, _⟩ => ⟨S384x16, .bf16⟩
  | .local _ .smem, ⟨0, _⟩ => ⟨S116x64, .f32⟩
  | _, _ => ⟨S1x384x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2122 : BitVec 32 := 0#32
  let c116_i32 : BitVec 32 := 116#32
  let v4339 : BitVec 32 := Scalar.addi c0_i32_2122 c116_i32
  let c1_i32_2123 : BitVec 32 := 1#32
  ⟨c0_i32_2122, v4339, c1_i32_2123⟩
def k0_mult1 (k0_t1 : Fin k0_t1_loop.trips) : BitVec 32 :=
  let c0_i32_2122 : BitVec 32 := 0#32
  let c1_i32_2123 : BitVec 32 := 1#32
  let arg11 : BitVec 32 := Scf.iv c0_i32_2122 c1_i32_2123 k0_t1
  let c128_i32 : BitVec 32 := 128#32
  let v4348 : BitVec 32 := Scalar.muli arg11 c128_i32
  v4348
def k0_off1 (k0_t1 : Fin k0_t1_loop.trips) : Fin 2 → Nat :=
  let c0_2132 : Index := 0#32
  let c0_i32_2122 : BitVec 32 := 0#32
  let c1_i32_2123 : BitVec 32 := 1#32
  let arg11 : BitVec 32 := Scf.iv c0_i32_2122 c1_i32_2123 k0_t1
  let c128_i32 : BitVec 32 := 128#32
  let v4348 : BitVec 32 := Scalar.muli arg11 c128_i32
  let v4349 : BitVec 32 := v4348
  let v4350 : Index := Scalar.indexCast v4349
  ![0, v4350.toNat]
def k0_off2 (i : grid0.Coords) (c0_i32_7 : BitVec 32) : Fin 2 → Nat :=
  let c0_8 : Index := 0#32
  let arg0 : BitVec 32 := BitVec.ofNat 32 (i 0).val
  let c4_i32 : BitVec 32 := 4#32
  let v10 : BitVec 32 := Scalar.muli arg0 c4_i32
  let v11 : BitVec 32 := Scalar.addi v10 c0_i32_7
  let v12 : Index := Scalar.indexCast v11
  ![0, v12.toNat]
def k0_off3 (i : grid0.Coords) (c0_i32_21 : BitVec 32) : Fin 2 → Nat :=
  let c1 : Index := 1#32
  let arg0 : BitVec 32 := BitVec.ofNat 32 (i 0).val
  let c4_i32_20 : BitVec 32 := 4#32
  let v47 : BitVec 32 := Scalar.muli arg0 c4_i32_20
  let v48 : BitVec 32 := Scalar.addi v47 c0_i32_21
  let v49 : Index := Scalar.indexCast v48
  ![1, v49.toNat]
def k0_off4 (i : grid0.Coords) (c0_i32_40 : BitVec 32) : Fin 2 → Nat :=
  let c2 : Index := 2#32
  let arg0 : BitVec 32 := BitVec.ofNat 32 (i 0).val
  let c4_i32_39 : BitVec 32 := 4#32
  let v84 : BitVec 32 := Scalar.muli arg0 c4_i32_39
  let v85 : BitVec 32 := Scalar.addi v84 c0_i32_40
  let v86 : Index := Scalar.indexCast v85
  ![2, v86.toNat]
def k0_off5 (i : grid0.Coords) (c0_i32_59 : BitVec 32) : Fin 2 → Nat :=
  let c3 : Index := 3#32
  let arg0 : BitVec 32 := BitVec.ofNat 32 (i 0).val
  let c4_i32_58 : BitVec 32 := 4#32
  let v121 : BitVec 32 := Scalar.muli arg0 c4_i32_58
  let v122 : BitVec 32 := Scalar.addi v121 c0_i32_59
  let v123 : Index := Scalar.indexCast v122
  ![3, v123.toNat]
def k0_off6 (i : grid0.Coords) (c0_i32_78 : BitVec 32) : Fin 2 → Nat :=
  let c4 : Index := 4#32
  let arg0 : BitVec 32 := BitVec.ofNat 32 (i 0).val
  let c4_i32_77 : BitVec 32 := 4#32
  let v158 : BitVec 32 := Scalar.muli arg0 c4_i32_77
  let v159 : BitVec 32 := Scalar.addi v158 c0_i32_78
  let v160 : Index := Scalar.indexCast v159
  ![4, v160.toNat]
def k0_off7 (i : grid0.Coords) (c0_i32_96 : BitVec 32) : Fin 2 → Nat :=
  let c5 : Index := 5#32
  let arg0 : BitVec 32 := BitVec.ofNat 32 (i 0).val
  let c4_i32_95 : BitVec 32 := 4#32
  let v195 : BitVec 32 := Scalar.muli arg0 c4_i32_95
  let v196 : BitVec 32 := Scalar.addi v195 c0_i32_96
  let v197 : Index := Scalar.indexCast v196
  ![5, v197.toNat]
def k0_off8 (i : grid0.Coords) (c0_i32_114 : BitVec 32) : Fin 2 → Nat :=
  let c6 : Index := 6#32
  let arg0 : BitVec 32 := BitVec.ofNat 32 (i 0).val
  let c4_i32_113 : BitVec 32 := 4#32
  let v232 : BitVec 32 := Scalar.muli arg0 c4_i32_113
  let v233 : BitVec 32 := Scalar.addi v232 c0_i32_114
  let v234 : Index := Scalar.indexCast v233
  ![6, v234.toNat]
def k0_off9 (i : grid0.Coords) (c0_i32_132 : BitVec 32) : Fin 2 → Nat :=
  let c7 : Index := 7#32
  let arg0 : BitVec 32 := BitVec.ofNat 32 (i 0).val
  let c4_i32_131 : BitVec 32 := 4#32
  let v269 : BitVec 32 := Scalar.muli arg0 c4_i32_131
  let v270 : BitVec 32 := Scalar.addi v269 c0_i32_132
  let v271 : Index := Scalar.indexCast v270
  ![7, v271.toNat]
def k0_off10 (i : grid0.Coords) (c0_i32_150 : BitVec 32) : Fin 2 → Nat :=
  let c8 : Index := 8#32
  let arg0 : BitVec 32 := BitVec.ofNat 32 (i 0).val
  let c4_i32_149 : BitVec 32 := 4#32
  let v306 : BitVec 32 := Scalar.muli arg0 c4_i32_149
  let v307 : BitVec 32 := Scalar.addi v306 c0_i32_150
  let v308 : Index := Scalar.indexCast v307
  ![8, v308.toNat]
def k0_off11 (i : grid0.Coords) (c0_i32_168 : BitVec 32) : Fin 2 → Nat :=
  let c9 : Index := 9#32
  let arg0 : BitVec 32 := BitVec.ofNat 32 (i 0).val
  let c4_i32_167 : BitVec 32 := 4#32
  let v343 : BitVec 32 := Scalar.muli arg0 c4_i32_167
  let v344 : BitVec 32 := Scalar.addi v343 c0_i32_168
  let v345 : Index := Scalar.indexCast v344
  ![9, v345.toNat]
def k0_off12 (i : grid0.Coords) (c0_i32_186 : BitVec 32) : Fin 2 → Nat :=
  let c10 : Index := 10#32
  let arg0 : BitVec 32 := BitVec.ofNat 32 (i 0).val
  let c4_i32_185 : BitVec 32 := 4#32
  let v380 : BitVec 32 := Scalar.muli arg0 c4_i32_185
  let v381 : BitVec 32 := Scalar.addi v380 c0_i32_186
  let v382 : Index := Scalar.indexCast v381
  ![10, v382.toNat]
def k0_off13 (i : grid0.Coords) (c0_i32_204 : BitVec 32) : Fin 2 → Nat :=
  let c11 : Index := 11#32
  let arg0 : BitVec 32 := BitVec.ofNat 32 (i 0).val
  let c4_i32_203 : BitVec 32 := 4#32
  let v417 : BitVec 32 := Scalar.muli arg0 c4_i32_203
  let v418 : BitVec 32 := Scalar.addi v417 c0_i32_204
  let v419 : Index := Scalar.indexCast v418
  ![11, v419.toNat]
def k0_off14 (i : grid0.Coords) (c0_i32_222 : BitVec 32) : Fin 2 → Nat :=
  let c12 : Index := 12#32
  let arg0 : BitVec 32 := BitVec.ofNat 32 (i 0).val
  let c4_i32_221 : BitVec 32 := 4#32
  let v454 : BitVec 32 := Scalar.muli arg0 c4_i32_221
  let v455 : BitVec 32 := Scalar.addi v454 c0_i32_222
  let v456 : Index := Scalar.indexCast v455
  ![12, v456.toNat]
def k0_off15 (i : grid0.Coords) (c0_i32_240 : BitVec 32) : Fin 2 → Nat :=
  let c13 : Index := 13#32
  let arg0 : BitVec 32 := BitVec.ofNat 32 (i 0).val
  let c4_i32_239 : BitVec 32 := 4#32
  let v491 : BitVec 32 := Scalar.muli arg0 c4_i32_239
  let v492 : BitVec 32 := Scalar.addi v491 c0_i32_240
  let v493 : Index := Scalar.indexCast v492
  ![13, v493.toNat]
def k0_off16 (i : grid0.Coords) (c0_i32_258 : BitVec 32) : Fin 2 → Nat :=
  let c14 : Index := 14#32
  let arg0 : BitVec 32 := BitVec.ofNat 32 (i 0).val
  let c4_i32_257 : BitVec 32 := 4#32
  let v528 : BitVec 32 := Scalar.muli arg0 c4_i32_257
  let v529 : BitVec 32 := Scalar.addi v528 c0_i32_258
  let v530 : Index := Scalar.indexCast v529
  ![14, v530.toNat]
def k0_off17 (i : grid0.Coords) (c0_i32_276 : BitVec 32) : Fin 2 → Nat :=
  let c15 : Index := 15#32
  let arg0 : BitVec 32 := BitVec.ofNat 32 (i 0).val
  let c4_i32_275 : BitVec 32 := 4#32
  let v565 : BitVec 32 := Scalar.muli arg0 c4_i32_275
  let v566 : BitVec 32 := Scalar.addi v565 c0_i32_276
  let v567 : Index := Scalar.indexCast v566
  ![15, v567.toNat]
def k0_off18 (i : grid0.Coords) (c0_i32_297 : BitVec 32) : Fin 2 → Nat :=
  let c16 : Index := 16#32
  let arg0 : BitVec 32 := BitVec.ofNat 32 (i 0).val
  let c4_i32_296 : BitVec 32 := 4#32
  let v606 : BitVec 32 := Scalar.muli arg0 c4_i32_296
  let v607 : BitVec 32 := Scalar.addi v606 c0_i32_297
  let v608 : Index := Scalar.indexCast v607
  ![16, v608.toNat]
def k0_off19 (i : grid0.Coords) (c0_i32_315 : BitVec 32) : Fin 2 → Nat :=
  let c17 : Index := 17#32
  let arg0 : BitVec 32 := BitVec.ofNat 32 (i 0).val
  let c4_i32_314 : BitVec 32 := 4#32
  let v643 : BitVec 32 := Scalar.muli arg0 c4_i32_314
  let v644 : BitVec 32 := Scalar.addi v643 c0_i32_315
  let v645 : Index := Scalar.indexCast v644
  ![17, v645.toNat]
def k0_off20 (i : grid0.Coords) (c0_i32_333 : BitVec 32) : Fin 2 → Nat :=
  let c18 : Index := 18#32
  let arg0 : BitVec 32 := BitVec.ofNat 32 (i 0).val
  let c4_i32_332 : BitVec 32 := 4#32
  let v680 : BitVec 32 := Scalar.muli arg0 c4_i32_332
  let v681 : BitVec 32 := Scalar.addi v680 c0_i32_333
  let v682 : Index := Scalar.indexCast v681
  ![18, v682.toNat]
def k0_off21 (i : grid0.Coords) (c0_i32_351 : BitVec 32) : Fin 2 → Nat :=
  let c19 : Index := 19#32
  let arg0 : BitVec 32 := BitVec.ofNat 32 (i 0).val
  let c4_i32_350 : BitVec 32 := 4#32
  let v717 : BitVec 32 := Scalar.muli arg0 c4_i32_350
  let v718 : BitVec 32 := Scalar.addi v717 c0_i32_351
  let v719 : Index := Scalar.indexCast v718
  ![19, v719.toNat]
def k0_off22 (i : grid0.Coords) (c0_i32_369 : BitVec 32) : Fin 2 → Nat :=
  let c20 : Index := 20#32
  let arg0 : BitVec 32 := BitVec.ofNat 32 (i 0).val
  let c4_i32_368 : BitVec 32 := 4#32
  let v754 : BitVec 32 := Scalar.muli arg0 c4_i32_368
  let v755 : BitVec 32 := Scalar.addi v754 c0_i32_369
  let v756 : Index := Scalar.indexCast v755
  ![20, v756.toNat]
def k0_off23 (i : grid0.Coords) (c0_i32_387 : BitVec 32) : Fin 2 → Nat :=
  let c21 : Index := 21#32
  let arg0 : BitVec 32 := BitVec.ofNat 32 (i 0).val
  let c4_i32_386 : BitVec 32 := 4#32
  let v791 : BitVec 32 := Scalar.muli arg0 c4_i32_386
  let v792 : BitVec 32 := Scalar.addi v791 c0_i32_387
  let v793 : Index := Scalar.indexCast v792
  ![21, v793.toNat]
def k0_off24 (i : grid0.Coords) (c0_i32_405 : BitVec 32) : Fin 2 → Nat :=
  let c22 : Index := 22#32
  let arg0 : BitVec 32 := BitVec.ofNat 32 (i 0).val
  let c4_i32_404 : BitVec 32 := 4#32
  let v828 : BitVec 32 := Scalar.muli arg0 c4_i32_404
  let v829 : BitVec 32 := Scalar.addi v828 c0_i32_405
  let v830 : Index := Scalar.indexCast v829
  ![22, v830.toNat]
def k0_off25 (i : grid0.Coords) (c0_i32_423 : BitVec 32) : Fin 2 → Nat :=
  let c23 : Index := 23#32
  let arg0 : BitVec 32 := BitVec.ofNat 32 (i 0).val
  let c4_i32_422 : BitVec 32 := 4#32
  let v865 : BitVec 32 := Scalar.muli arg0 c4_i32_422
  let v866 : BitVec 32 := Scalar.addi v865 c0_i32_423
  let v867 : Index := Scalar.indexCast v866
  ![23, v867.toNat]
def k0_off26 (i : grid0.Coords) (c0_i32_441 : BitVec 32) : Fin 2 → Nat :=
  let c24 : Index := 24#32
  let arg0 : BitVec 32 := BitVec.ofNat 32 (i 0).val
  let c4_i32_440 : BitVec 32 := 4#32
  let v902 : BitVec 32 := Scalar.muli arg0 c4_i32_440
  let v903 : BitVec 32 := Scalar.addi v902 c0_i32_441
  let v904 : Index := Scalar.indexCast v903
  ![24, v904.toNat]
def k0_off27 (i : grid0.Coords) (c0_i32_459 : BitVec 32) : Fin 2 → Nat :=
  let c25 : Index := 25#32
  let arg0 : BitVec 32 := BitVec.ofNat 32 (i 0).val
  let c4_i32_458 : BitVec 32 := 4#32
  let v939 : BitVec 32 := Scalar.muli arg0 c4_i32_458
  let v940 : BitVec 32 := Scalar.addi v939 c0_i32_459
  let v941 : Index := Scalar.indexCast v940
  ![25, v941.toNat]
def k0_off28 (i : grid0.Coords) (c0_i32_477 : BitVec 32) : Fin 2 → Nat :=
  let c26 : Index := 26#32
  let arg0 : BitVec 32 := BitVec.ofNat 32 (i 0).val
  let c4_i32_476 : BitVec 32 := 4#32
  let v976 : BitVec 32 := Scalar.muli arg0 c4_i32_476
  let v977 : BitVec 32 := Scalar.addi v976 c0_i32_477
  let v978 : Index := Scalar.indexCast v977
  ![26, v978.toNat]
def k0_off29 (i : grid0.Coords) (c0_i32_495 : BitVec 32) : Fin 2 → Nat :=
  let c27 : Index := 27#32
  let arg0 : BitVec 32 := BitVec.ofNat 32 (i 0).val
  let c4_i32_494 : BitVec 32 := 4#32
  let v1013 : BitVec 32 := Scalar.muli arg0 c4_i32_494
  let v1014 : BitVec 32 := Scalar.addi v1013 c0_i32_495
  let v1015 : Index := Scalar.indexCast v1014
  ![27, v1015.toNat]
def k0_off30 (i : grid0.Coords) (c0_i32_513 : BitVec 32) : Fin 2 → Nat :=
  let c28 : Index := 28#32
  let arg0 : BitVec 32 := BitVec.ofNat 32 (i 0).val
  let c4_i32_512 : BitVec 32 := 4#32
  let v1050 : BitVec 32 := Scalar.muli arg0 c4_i32_512
  let v1051 : BitVec 32 := Scalar.addi v1050 c0_i32_513
  let v1052 : Index := Scalar.indexCast v1051
  ![28, v1052.toNat]
def k0_off31 (i : grid0.Coords) (c0_i32_531 : BitVec 32) : Fin 2 → Nat :=
  let c29 : Index := 29#32
  let arg0 : BitVec 32 := BitVec.ofNat 32 (i 0).val
  let c4_i32_530 : BitVec 32 := 4#32
  let v1087 : BitVec 32 := Scalar.muli arg0 c4_i32_530
  let v1088 : BitVec 32 := Scalar.addi v1087 c0_i32_531
  let v1089 : Index := Scalar.indexCast v1088
  ![29, v1089.toNat]
def k0_off32 (i : grid0.Coords) (c0_i32_549 : BitVec 32) : Fin 2 → Nat :=
  let c30 : Index := 30#32
  let arg0 : BitVec 32 := BitVec.ofNat 32 (i 0).val
  let c4_i32_548 : BitVec 32 := 4#32
  let v1124 : BitVec 32 := Scalar.muli arg0 c4_i32_548
  let v1125 : BitVec 32 := Scalar.addi v1124 c0_i32_549
  let v1126 : Index := Scalar.indexCast v1125
  ![30, v1126.toNat]
def k0_off33 (i : grid0.Coords) (c0_i32_567 : BitVec 32) : Fin 2 → Nat :=
  let c31 : Index := 31#32
  let arg0 : BitVec 32 := BitVec.ofNat 32 (i 0).val
  let c4_i32_566 : BitVec 32 := 4#32
  let v1161 : BitVec 32 := Scalar.muli arg0 c4_i32_566
  let v1162 : BitVec 32 := Scalar.addi v1161 c0_i32_567
  let v1163 : Index := Scalar.indexCast v1162
  ![31, v1163.toNat]
def k0_off34 (i : grid0.Coords) (c0_i32_588 : BitVec 32) : Fin 2 → Nat :=
  let c32 : Index := 32#32
  let arg0 : BitVec 32 := BitVec.ofNat 32 (i 0).val
  let c4_i32_587 : BitVec 32 := 4#32
  let v1202 : BitVec 32 := Scalar.muli arg0 c4_i32_587
  let v1203 : BitVec 32 := Scalar.addi v1202 c0_i32_588
  let v1204 : Index := Scalar.indexCast v1203
  ![32, v1204.toNat]
def k0_off35 (i : grid0.Coords) (c0_i32_606 : BitVec 32) : Fin 2 → Nat :=
  let c33 : Index := 33#32
  let arg0 : BitVec 32 := BitVec.ofNat 32 (i 0).val
  let c4_i32_605 : BitVec 32 := 4#32
  let v1239 : BitVec 32 := Scalar.muli arg0 c4_i32_605
  let v1240 : BitVec 32 := Scalar.addi v1239 c0_i32_606
  let v1241 : Index := Scalar.indexCast v1240
  ![33, v1241.toNat]
def k0_off36 (i : grid0.Coords) (c0_i32_624 : BitVec 32) : Fin 2 → Nat :=
  let c34 : Index := 34#32
  let arg0 : BitVec 32 := BitVec.ofNat 32 (i 0).val
  let c4_i32_623 : BitVec 32 := 4#32
  let v1276 : BitVec 32 := Scalar.muli arg0 c4_i32_623
  let v1277 : BitVec 32 := Scalar.addi v1276 c0_i32_624
  let v1278 : Index := Scalar.indexCast v1277
  ![34, v1278.toNat]
def k0_off37 (i : grid0.Coords) (c0_i32_642 : BitVec 32) : Fin 2 → Nat :=
  let c35 : Index := 35#32
  let arg0 : BitVec 32 := BitVec.ofNat 32 (i 0).val
  let c4_i32_641 : BitVec 32 := 4#32
  let v1313 : BitVec 32 := Scalar.muli arg0 c4_i32_641
  let v1314 : BitVec 32 := Scalar.addi v1313 c0_i32_642
  let v1315 : Index := Scalar.indexCast v1314
  ![35, v1315.toNat]
def k0_off38 (i : grid0.Coords) (c0_i32_660 : BitVec 32) : Fin 2 → Nat :=
  let c36 : Index := 36#32
  let arg0 : BitVec 32 := BitVec.ofNat 32 (i 0).val
  let c4_i32_659 : BitVec 32 := 4#32
  let v1350 : BitVec 32 := Scalar.muli arg0 c4_i32_659
  let v1351 : BitVec 32 := Scalar.addi v1350 c0_i32_660
  let v1352 : Index := Scalar.indexCast v1351
  ![36, v1352.toNat]
def k0_off39 (i : grid0.Coords) (c0_i32_678 : BitVec 32) : Fin 2 → Nat :=
  let c37 : Index := 37#32
  let arg0 : BitVec 32 := BitVec.ofNat 32 (i 0).val
  let c4_i32_677 : BitVec 32 := 4#32
  let v1387 : BitVec 32 := Scalar.muli arg0 c4_i32_677
  let v1388 : BitVec 32 := Scalar.addi v1387 c0_i32_678
  let v1389 : Index := Scalar.indexCast v1388
  ![37, v1389.toNat]
def k0_off40 (i : grid0.Coords) (c0_i32_696 : BitVec 32) : Fin 2 → Nat :=
  let c38 : Index := 38#32
  let arg0 : BitVec 32 := BitVec.ofNat 32 (i 0).val
  let c4_i32_695 : BitVec 32 := 4#32
  let v1424 : BitVec 32 := Scalar.muli arg0 c4_i32_695
  let v1425 : BitVec 32 := Scalar.addi v1424 c0_i32_696
  let v1426 : Index := Scalar.indexCast v1425
  ![38, v1426.toNat]
def k0_off41 (i : grid0.Coords) (c0_i32_714 : BitVec 32) : Fin 2 → Nat :=
  let c39 : Index := 39#32
  let arg0 : BitVec 32 := BitVec.ofNat 32 (i 0).val
  let c4_i32_713 : BitVec 32 := 4#32
  let v1461 : BitVec 32 := Scalar.muli arg0 c4_i32_713
  let v1462 : BitVec 32 := Scalar.addi v1461 c0_i32_714
  let v1463 : Index := Scalar.indexCast v1462
  ![39, v1463.toNat]
def k0_off42 (i : grid0.Coords) (c0_i32_732 : BitVec 32) : Fin 2 → Nat :=
  let c40 : Index := 40#32
  let arg0 : BitVec 32 := BitVec.ofNat 32 (i 0).val
  let c4_i32_731 : BitVec 32 := 4#32
  let v1498 : BitVec 32 := Scalar.muli arg0 c4_i32_731
  let v1499 : BitVec 32 := Scalar.addi v1498 c0_i32_732
  let v1500 : Index := Scalar.indexCast v1499
  ![40, v1500.toNat]
def k0_off43 (i : grid0.Coords) (c0_i32_750 : BitVec 32) : Fin 2 → Nat :=
  let c41 : Index := 41#32
  let arg0 : BitVec 32 := BitVec.ofNat 32 (i 0).val
  let c4_i32_749 : BitVec 32 := 4#32
  let v1535 : BitVec 32 := Scalar.muli arg0 c4_i32_749
  let v1536 : BitVec 32 := Scalar.addi v1535 c0_i32_750
  let v1537 : Index := Scalar.indexCast v1536
  ![41, v1537.toNat]
def k0_off44 (i : grid0.Coords) (c0_i32_768 : BitVec 32) : Fin 2 → Nat :=
  let c42 : Index := 42#32
  let arg0 : BitVec 32 := BitVec.ofNat 32 (i 0).val
  let c4_i32_767 : BitVec 32 := 4#32
  let v1572 : BitVec 32 := Scalar.muli arg0 c4_i32_767
  let v1573 : BitVec 32 := Scalar.addi v1572 c0_i32_768
  let v1574 : Index := Scalar.indexCast v1573
  ![42, v1574.toNat]
def k0_off45 (i : grid0.Coords) (c0_i32_786 : BitVec 32) : Fin 2 → Nat :=
  let c43 : Index := 43#32
  let arg0 : BitVec 32 := BitVec.ofNat 32 (i 0).val
  let c4_i32_785 : BitVec 32 := 4#32
  let v1609 : BitVec 32 := Scalar.muli arg0 c4_i32_785
  let v1610 : BitVec 32 := Scalar.addi v1609 c0_i32_786
  let v1611 : Index := Scalar.indexCast v1610
  ![43, v1611.toNat]
def k0_off46 (i : grid0.Coords) (c0_i32_804 : BitVec 32) : Fin 2 → Nat :=
  let c44 : Index := 44#32
  let arg0 : BitVec 32 := BitVec.ofNat 32 (i 0).val
  let c4_i32_803 : BitVec 32 := 4#32
  let v1646 : BitVec 32 := Scalar.muli arg0 c4_i32_803
  let v1647 : BitVec 32 := Scalar.addi v1646 c0_i32_804
  let v1648 : Index := Scalar.indexCast v1647
  ![44, v1648.toNat]
def k0_off47 (i : grid0.Coords) (c0_i32_822 : BitVec 32) : Fin 2 → Nat :=
  let c45 : Index := 45#32
  let arg0 : BitVec 32 := BitVec.ofNat 32 (i 0).val
  let c4_i32_821 : BitVec 32 := 4#32
  let v1683 : BitVec 32 := Scalar.muli arg0 c4_i32_821
  let v1684 : BitVec 32 := Scalar.addi v1683 c0_i32_822
  let v1685 : Index := Scalar.indexCast v1684
  ![45, v1685.toNat]
def k0_off48 (i : grid0.Coords) (c0_i32_840 : BitVec 32) : Fin 2 → Nat :=
  let c46 : Index := 46#32
  let arg0 : BitVec 32 := BitVec.ofNat 32 (i 0).val
  let c4_i32_839 : BitVec 32 := 4#32
  let v1720 : BitVec 32 := Scalar.muli arg0 c4_i32_839
  let v1721 : BitVec 32 := Scalar.addi v1720 c0_i32_840
  let v1722 : Index := Scalar.indexCast v1721
  ![46, v1722.toNat]
def k0_off49 (i : grid0.Coords) (c0_i32_858 : BitVec 32) : Fin 2 → Nat :=
  let c47 : Index := 47#32
  let arg0 : BitVec 32 := BitVec.ofNat 32 (i 0).val
  let c4_i32_857 : BitVec 32 := 4#32
  let v1757 : BitVec 32 := Scalar.muli arg0 c4_i32_857
  let v1758 : BitVec 32 := Scalar.addi v1757 c0_i32_858
  let v1759 : Index := Scalar.indexCast v1758
  ![47, v1759.toNat]
def k0_off50 (i : grid0.Coords) (c0_i32_879 : BitVec 32) : Fin 2 → Nat :=
  let c48 : Index := 48#32
  let arg0 : BitVec 32 := BitVec.ofNat 32 (i 0).val
  let c4_i32_878 : BitVec 32 := 4#32
  let v1798 : BitVec 32 := Scalar.muli arg0 c4_i32_878
  let v1799 : BitVec 32 := Scalar.addi v1798 c0_i32_879
  let v1800 : Index := Scalar.indexCast v1799
  ![48, v1800.toNat]
def k0_off51 (i : grid0.Coords) (c0_i32_897 : BitVec 32) : Fin 2 → Nat :=
  let c49 : Index := 49#32
  let arg0 : BitVec 32 := BitVec.ofNat 32 (i 0).val
  let c4_i32_896 : BitVec 32 := 4#32
  let v1835 : BitVec 32 := Scalar.muli arg0 c4_i32_896
  let v1836 : BitVec 32 := Scalar.addi v1835 c0_i32_897
  let v1837 : Index := Scalar.indexCast v1836
  ![49, v1837.toNat]
def k0_off52 (i : grid0.Coords) (c0_i32_915 : BitVec 32) : Fin 2 → Nat :=
  let c50 : Index := 50#32
  let arg0 : BitVec 32 := BitVec.ofNat 32 (i 0).val
  let c4_i32_914 : BitVec 32 := 4#32
  let v1872 : BitVec 32 := Scalar.muli arg0 c4_i32_914
  let v1873 : BitVec 32 := Scalar.addi v1872 c0_i32_915
  let v1874 : Index := Scalar.indexCast v1873
  ![50, v1874.toNat]
def k0_off53 (i : grid0.Coords) (c0_i32_933 : BitVec 32) : Fin 2 → Nat :=
  let c51 : Index := 51#32
  let arg0 : BitVec 32 := BitVec.ofNat 32 (i 0).val
  let c4_i32_932 : BitVec 32 := 4#32
  let v1909 : BitVec 32 := Scalar.muli arg0 c4_i32_932
  let v1910 : BitVec 32 := Scalar.addi v1909 c0_i32_933
  let v1911 : Index := Scalar.indexCast v1910
  ![51, v1911.toNat]
def k0_off54 (i : grid0.Coords) (c0_i32_951 : BitVec 32) : Fin 2 → Nat :=
  let c52 : Index := 52#32
  let arg0 : BitVec 32 := BitVec.ofNat 32 (i 0).val
  let c4_i32_950 : BitVec 32 := 4#32
  let v1946 : BitVec 32 := Scalar.muli arg0 c4_i32_950
  let v1947 : BitVec 32 := Scalar.addi v1946 c0_i32_951
  let v1948 : Index := Scalar.indexCast v1947
  ![52, v1948.toNat]
def k0_off55 (i : grid0.Coords) (c0_i32_969 : BitVec 32) : Fin 2 → Nat :=
  let c53 : Index := 53#32
  let arg0 : BitVec 32 := BitVec.ofNat 32 (i 0).val
  let c4_i32_968 : BitVec 32 := 4#32
  let v1983 : BitVec 32 := Scalar.muli arg0 c4_i32_968
  let v1984 : BitVec 32 := Scalar.addi v1983 c0_i32_969
  let v1985 : Index := Scalar.indexCast v1984
  ![53, v1985.toNat]
def k0_off56 (i : grid0.Coords) (c0_i32_987 : BitVec 32) : Fin 2 → Nat :=
  let c54 : Index := 54#32
  let arg0 : BitVec 32 := BitVec.ofNat 32 (i 0).val
  let c4_i32_986 : BitVec 32 := 4#32
  let v2020 : BitVec 32 := Scalar.muli arg0 c4_i32_986
  let v2021 : BitVec 32 := Scalar.addi v2020 c0_i32_987
  let v2022 : Index := Scalar.indexCast v2021
  ![54, v2022.toNat]
def k0_off57 (i : grid0.Coords) (c0_i32_1005 : BitVec 32) : Fin 2 → Nat :=
  let c55 : Index := 55#32
  let arg0 : BitVec 32 := BitVec.ofNat 32 (i 0).val
  let c4_i32_1004 : BitVec 32 := 4#32
  let v2057 : BitVec 32 := Scalar.muli arg0 c4_i32_1004
  let v2058 : BitVec 32 := Scalar.addi v2057 c0_i32_1005
  let v2059 : Index := Scalar.indexCast v2058
  ![55, v2059.toNat]
def k0_off58 (i : grid0.Coords) (c0_i32_1023 : BitVec 32) : Fin 2 → Nat :=
  let c56 : Index := 56#32
  let arg0 : BitVec 32 := BitVec.ofNat 32 (i 0).val
  let c4_i32_1022 : BitVec 32 := 4#32
  let v2094 : BitVec 32 := Scalar.muli arg0 c4_i32_1022
  let v2095 : BitVec 32 := Scalar.addi v2094 c0_i32_1023
  let v2096 : Index := Scalar.indexCast v2095
  ![56, v2096.toNat]
def k0_off59 (i : grid0.Coords) (c0_i32_1041 : BitVec 32) : Fin 2 → Nat :=
  let c57 : Index := 57#32
  let arg0 : BitVec 32 := BitVec.ofNat 32 (i 0).val
  let c4_i32_1040 : BitVec 32 := 4#32
  let v2131 : BitVec 32 := Scalar.muli arg0 c4_i32_1040
  let v2132 : BitVec 32 := Scalar.addi v2131 c0_i32_1041
  let v2133 : Index := Scalar.indexCast v2132
  ![57, v2133.toNat]
def k0_off60 (i : grid0.Coords) (c0_i32_1059 : BitVec 32) : Fin 2 → Nat :=
  let c58 : Index := 58#32
  let arg0 : BitVec 32 := BitVec.ofNat 32 (i 0).val
  let c4_i32_1058 : BitVec 32 := 4#32
  let v2168 : BitVec 32 := Scalar.muli arg0 c4_i32_1058
  let v2169 : BitVec 32 := Scalar.addi v2168 c0_i32_1059
  let v2170 : Index := Scalar.indexCast v2169
  ![58, v2170.toNat]
def k0_off61 (i : grid0.Coords) (c0_i32_1077 : BitVec 32) : Fin 2 → Nat :=
  let c59 : Index := 59#32
  let arg0 : BitVec 32 := BitVec.ofNat 32 (i 0).val
  let c4_i32_1076 : BitVec 32 := 4#32
  let v2205 : BitVec 32 := Scalar.muli arg0 c4_i32_1076
  let v2206 : BitVec 32 := Scalar.addi v2205 c0_i32_1077
  let v2207 : Index := Scalar.indexCast v2206
  ![59, v2207.toNat]
def k0_off62 (i : grid0.Coords) (c0_i32_1095 : BitVec 32) : Fin 2 → Nat :=
  let c60 : Index := 60#32
  let arg0 : BitVec 32 := BitVec.ofNat 32 (i 0).val
  let c4_i32_1094 : BitVec 32 := 4#32
  let v2242 : BitVec 32 := Scalar.muli arg0 c4_i32_1094
  let v2243 : BitVec 32 := Scalar.addi v2242 c0_i32_1095
  let v2244 : Index := Scalar.indexCast v2243
  ![60, v2244.toNat]
def k0_off63 (i : grid0.Coords) (c0_i32_1113 : BitVec 32) : Fin 2 → Nat :=
  let c61 : Index := 61#32
  let arg0 : BitVec 32 := BitVec.ofNat 32 (i 0).val
  let c4_i32_1112 : BitVec 32 := 4#32
  let v2279 : BitVec 32 := Scalar.muli arg0 c4_i32_1112
  let v2280 : BitVec 32 := Scalar.addi v2279 c0_i32_1113
  let v2281 : Index := Scalar.indexCast v2280
  ![61, v2281.toNat]
def k0_off64 (i : grid0.Coords) (c0_i32_1131 : BitVec 32) : Fin 2 → Nat :=
  let c62 : Index := 62#32
  let arg0 : BitVec 32 := BitVec.ofNat 32 (i 0).val
  let c4_i32_1130 : BitVec 32 := 4#32
  let v2316 : BitVec 32 := Scalar.muli arg0 c4_i32_1130
  let v2317 : BitVec 32 := Scalar.addi v2316 c0_i32_1131
  let v2318 : Index := Scalar.indexCast v2317
  ![62, v2318.toNat]
def k0_off65 (i : grid0.Coords) (c0_i32_1149 : BitVec 32) : Fin 2 → Nat :=
  let c63 : Index := 63#32
  let arg0 : BitVec 32 := BitVec.ofNat 32 (i 0).val
  let c4_i32_1148 : BitVec 32 := 4#32
  let v2353 : BitVec 32 := Scalar.muli arg0 c4_i32_1148
  let v2354 : BitVec 32 := Scalar.addi v2353 c0_i32_1149
  let v2355 : Index := Scalar.indexCast v2354
  ![63, v2355.toNat]
def k0_off66 (i : grid0.Coords) (c0_i32_1170 : BitVec 32) : Fin 2 → Nat :=
  let c64 : Index := 64#32
  let arg0 : BitVec 32 := BitVec.ofNat 32 (i 0).val
  let c4_i32_1169 : BitVec 32 := 4#32
  let v2394 : BitVec 32 := Scalar.muli arg0 c4_i32_1169
  let v2395 : BitVec 32 := Scalar.addi v2394 c0_i32_1170
  let v2396 : Index := Scalar.indexCast v2395
  ![64, v2396.toNat]
def k0_off67 (i : grid0.Coords) (c0_i32_1188 : BitVec 32) : Fin 2 → Nat :=
  let c65 : Index := 65#32
  let arg0 : BitVec 32 := BitVec.ofNat 32 (i 0).val
  let c4_i32_1187 : BitVec 32 := 4#32
  let v2431 : BitVec 32 := Scalar.muli arg0 c4_i32_1187
  let v2432 : BitVec 32 := Scalar.addi v2431 c0_i32_1188
  let v2433 : Index := Scalar.indexCast v2432
  ![65, v2433.toNat]
def k0_off68 (i : grid0.Coords) (c0_i32_1206 : BitVec 32) : Fin 2 → Nat :=
  let c66 : Index := 66#32
  let arg0 : BitVec 32 := BitVec.ofNat 32 (i 0).val
  let c4_i32_1205 : BitVec 32 := 4#32
  let v2468 : BitVec 32 := Scalar.muli arg0 c4_i32_1205
  let v2469 : BitVec 32 := Scalar.addi v2468 c0_i32_1206
  let v2470 : Index := Scalar.indexCast v2469
  ![66, v2470.toNat]
def k0_off69 (i : grid0.Coords) (c0_i32_1224 : BitVec 32) : Fin 2 → Nat :=
  let c67 : Index := 67#32
  let arg0 : BitVec 32 := BitVec.ofNat 32 (i 0).val
  let c4_i32_1223 : BitVec 32 := 4#32
  let v2505 : BitVec 32 := Scalar.muli arg0 c4_i32_1223
  let v2506 : BitVec 32 := Scalar.addi v2505 c0_i32_1224
  let v2507 : Index := Scalar.indexCast v2506
  ![67, v2507.toNat]
def k0_off70 (i : grid0.Coords) (c0_i32_1242 : BitVec 32) : Fin 2 → Nat :=
  let c68 : Index := 68#32
  let arg0 : BitVec 32 := BitVec.ofNat 32 (i 0).val
  let c4_i32_1241 : BitVec 32 := 4#32
  let v2542 : BitVec 32 := Scalar.muli arg0 c4_i32_1241
  let v2543 : BitVec 32 := Scalar.addi v2542 c0_i32_1242
  let v2544 : Index := Scalar.indexCast v2543
  ![68, v2544.toNat]
def k0_off71 (i : grid0.Coords) (c0_i32_1260 : BitVec 32) : Fin 2 → Nat :=
  let c69 : Index := 69#32
  let arg0 : BitVec 32 := BitVec.ofNat 32 (i 0).val
  let c4_i32_1259 : BitVec 32 := 4#32
  let v2579 : BitVec 32 := Scalar.muli arg0 c4_i32_1259
  let v2580 : BitVec 32 := Scalar.addi v2579 c0_i32_1260
  let v2581 : Index := Scalar.indexCast v2580
  ![69, v2581.toNat]
def k0_off72 (i : grid0.Coords) (c0_i32_1278 : BitVec 32) : Fin 2 → Nat :=
  let c70 : Index := 70#32
  let arg0 : BitVec 32 := BitVec.ofNat 32 (i 0).val
  let c4_i32_1277 : BitVec 32 := 4#32
  let v2616 : BitVec 32 := Scalar.muli arg0 c4_i32_1277
  let v2617 : BitVec 32 := Scalar.addi v2616 c0_i32_1278
  let v2618 : Index := Scalar.indexCast v2617
  ![70, v2618.toNat]
def k0_off73 (i : grid0.Coords) (c0_i32_1296 : BitVec 32) : Fin 2 → Nat :=
  let c71 : Index := 71#32
  let arg0 : BitVec 32 := BitVec.ofNat 32 (i 0).val
  let c4_i32_1295 : BitVec 32 := 4#32
  let v2653 : BitVec 32 := Scalar.muli arg0 c4_i32_1295
  let v2654 : BitVec 32 := Scalar.addi v2653 c0_i32_1296
  let v2655 : Index := Scalar.indexCast v2654
  ![71, v2655.toNat]
def k0_off74 (i : grid0.Coords) (c0_i32_1314 : BitVec 32) : Fin 2 → Nat :=
  let c72 : Index := 72#32
  let arg0 : BitVec 32 := BitVec.ofNat 32 (i 0).val
  let c4_i32_1313 : BitVec 32 := 4#32
  let v2690 : BitVec 32 := Scalar.muli arg0 c4_i32_1313
  let v2691 : BitVec 32 := Scalar.addi v2690 c0_i32_1314
  let v2692 : Index := Scalar.indexCast v2691
  ![72, v2692.toNat]
def k0_off75 (i : grid0.Coords) (c0_i32_1332 : BitVec 32) : Fin 2 → Nat :=
  let c73 : Index := 73#32
  let arg0 : BitVec 32 := BitVec.ofNat 32 (i 0).val
  let c4_i32_1331 : BitVec 32 := 4#32
  let v2727 : BitVec 32 := Scalar.muli arg0 c4_i32_1331
  let v2728 : BitVec 32 := Scalar.addi v2727 c0_i32_1332
  let v2729 : Index := Scalar.indexCast v2728
  ![73, v2729.toNat]
def k0_off76 (i : grid0.Coords) (c0_i32_1350 : BitVec 32) : Fin 2 → Nat :=
  let c74 : Index := 74#32
  let arg0 : BitVec 32 := BitVec.ofNat 32 (i 0).val
  let c4_i32_1349 : BitVec 32 := 4#32
  let v2764 : BitVec 32 := Scalar.muli arg0 c4_i32_1349
  let v2765 : BitVec 32 := Scalar.addi v2764 c0_i32_1350
  let v2766 : Index := Scalar.indexCast v2765
  ![74, v2766.toNat]
def k0_off77 (i : grid0.Coords) (c0_i32_1368 : BitVec 32) : Fin 2 → Nat :=
  let c75 : Index := 75#32
  let arg0 : BitVec 32 := BitVec.ofNat 32 (i 0).val
  let c4_i32_1367 : BitVec 32 := 4#32
  let v2801 : BitVec 32 := Scalar.muli arg0 c4_i32_1367
  let v2802 : BitVec 32 := Scalar.addi v2801 c0_i32_1368
  let v2803 : Index := Scalar.indexCast v2802
  ![75, v2803.toNat]
def k0_off78 (i : grid0.Coords) (c0_i32_1386 : BitVec 32) : Fin 2 → Nat :=
  let c76 : Index := 76#32
  let arg0 : BitVec 32 := BitVec.ofNat 32 (i 0).val
  let c4_i32_1385 : BitVec 32 := 4#32
  let v2838 : BitVec 32 := Scalar.muli arg0 c4_i32_1385
  let v2839 : BitVec 32 := Scalar.addi v2838 c0_i32_1386
  let v2840 : Index := Scalar.indexCast v2839
  ![76, v2840.toNat]
def k0_off79 (i : grid0.Coords) (c0_i32_1404 : BitVec 32) : Fin 2 → Nat :=
  let c77 : Index := 77#32
  let arg0 : BitVec 32 := BitVec.ofNat 32 (i 0).val
  let c4_i32_1403 : BitVec 32 := 4#32
  let v2875 : BitVec 32 := Scalar.muli arg0 c4_i32_1403
  let v2876 : BitVec 32 := Scalar.addi v2875 c0_i32_1404
  let v2877 : Index := Scalar.indexCast v2876
  ![77, v2877.toNat]
def k0_off80 (i : grid0.Coords) (c0_i32_1422 : BitVec 32) : Fin 2 → Nat :=
  let c78 : Index := 78#32
  let arg0 : BitVec 32 := BitVec.ofNat 32 (i 0).val
  let c4_i32_1421 : BitVec 32 := 4#32
  let v2912 : BitVec 32 := Scalar.muli arg0 c4_i32_1421
  let v2913 : BitVec 32 := Scalar.addi v2912 c0_i32_1422
  let v2914 : Index := Scalar.indexCast v2913
  ![78, v2914.toNat]
def k0_off81 (i : grid0.Coords) (c0_i32_1440 : BitVec 32) : Fin 2 → Nat :=
  let c79 : Index := 79#32
  let arg0 : BitVec 32 := BitVec.ofNat 32 (i 0).val
  let c4_i32_1439 : BitVec 32 := 4#32
  let v2949 : BitVec 32 := Scalar.muli arg0 c4_i32_1439
  let v2950 : BitVec 32 := Scalar.addi v2949 c0_i32_1440
  let v2951 : Index := Scalar.indexCast v2950
  ![79, v2951.toNat]
def k0_off82 (i : grid0.Coords) (c0_i32_1461 : BitVec 32) : Fin 2 → Nat :=
  let c80 : Index := 80#32
  let arg0 : BitVec 32 := BitVec.ofNat 32 (i 0).val
  let c4_i32_1460 : BitVec 32 := 4#32
  let v2990 : BitVec 32 := Scalar.muli arg0 c4_i32_1460
  let v2991 : BitVec 32 := Scalar.addi v2990 c0_i32_1461
  let v2992 : Index := Scalar.indexCast v2991
  ![80, v2992.toNat]
def k0_off83 (i : grid0.Coords) (c0_i32_1479 : BitVec 32) : Fin 2 → Nat :=
  let c81 : Index := 81#32
  let arg0 : BitVec 32 := BitVec.ofNat 32 (i 0).val
  let c4_i32_1478 : BitVec 32 := 4#32
  let v3027 : BitVec 32 := Scalar.muli arg0 c4_i32_1478
  let v3028 : BitVec 32 := Scalar.addi v3027 c0_i32_1479
  let v3029 : Index := Scalar.indexCast v3028
  ![81, v3029.toNat]
def k0_off84 (i : grid0.Coords) (c0_i32_1497 : BitVec 32) : Fin 2 → Nat :=
  let c82 : Index := 82#32
  let arg0 : BitVec 32 := BitVec.ofNat 32 (i 0).val
  let c4_i32_1496 : BitVec 32 := 4#32
  let v3064 : BitVec 32 := Scalar.muli arg0 c4_i32_1496
  let v3065 : BitVec 32 := Scalar.addi v3064 c0_i32_1497
  let v3066 : Index := Scalar.indexCast v3065
  ![82, v3066.toNat]
def k0_off85 (i : grid0.Coords) (c0_i32_1515 : BitVec 32) : Fin 2 → Nat :=
  let c83 : Index := 83#32
  let arg0 : BitVec 32 := BitVec.ofNat 32 (i 0).val
  let c4_i32_1514 : BitVec 32 := 4#32
  let v3101 : BitVec 32 := Scalar.muli arg0 c4_i32_1514
  let v3102 : BitVec 32 := Scalar.addi v3101 c0_i32_1515
  let v3103 : Index := Scalar.indexCast v3102
  ![83, v3103.toNat]
def k0_off86 (i : grid0.Coords) (c0_i32_1533 : BitVec 32) : Fin 2 → Nat :=
  let c84 : Index := 84#32
  let arg0 : BitVec 32 := BitVec.ofNat 32 (i 0).val
  let c4_i32_1532 : BitVec 32 := 4#32
  let v3138 : BitVec 32 := Scalar.muli arg0 c4_i32_1532
  let v3139 : BitVec 32 := Scalar.addi v3138 c0_i32_1533
  let v3140 : Index := Scalar.indexCast v3139
  ![84, v3140.toNat]
def k0_off87 (i : grid0.Coords) (c0_i32_1551 : BitVec 32) : Fin 2 → Nat :=
  let c85 : Index := 85#32
  let arg0 : BitVec 32 := BitVec.ofNat 32 (i 0).val
  let c4_i32_1550 : BitVec 32 := 4#32
  let v3175 : BitVec 32 := Scalar.muli arg0 c4_i32_1550
  let v3176 : BitVec 32 := Scalar.addi v3175 c0_i32_1551
  let v3177 : Index := Scalar.indexCast v3176
  ![85, v3177.toNat]
def k0_off88 (i : grid0.Coords) (c0_i32_1569 : BitVec 32) : Fin 2 → Nat :=
  let c86 : Index := 86#32
  let arg0 : BitVec 32 := BitVec.ofNat 32 (i 0).val
  let c4_i32_1568 : BitVec 32 := 4#32
  let v3212 : BitVec 32 := Scalar.muli arg0 c4_i32_1568
  let v3213 : BitVec 32 := Scalar.addi v3212 c0_i32_1569
  let v3214 : Index := Scalar.indexCast v3213
  ![86, v3214.toNat]
def k0_off89 (i : grid0.Coords) (c0_i32_1587 : BitVec 32) : Fin 2 → Nat :=
  let c87 : Index := 87#32
  let arg0 : BitVec 32 := BitVec.ofNat 32 (i 0).val
  let c4_i32_1586 : BitVec 32 := 4#32
  let v3249 : BitVec 32 := Scalar.muli arg0 c4_i32_1586
  let v3250 : BitVec 32 := Scalar.addi v3249 c0_i32_1587
  let v3251 : Index := Scalar.indexCast v3250
  ![87, v3251.toNat]
def k0_off90 (i : grid0.Coords) (c0_i32_1605 : BitVec 32) : Fin 2 → Nat :=
  let c88 : Index := 88#32
  let arg0 : BitVec 32 := BitVec.ofNat 32 (i 0).val
  let c4_i32_1604 : BitVec 32 := 4#32
  let v3286 : BitVec 32 := Scalar.muli arg0 c4_i32_1604
  let v3287 : BitVec 32 := Scalar.addi v3286 c0_i32_1605
  let v3288 : Index := Scalar.indexCast v3287
  ![88, v3288.toNat]
def k0_off91 (i : grid0.Coords) (c0_i32_1623 : BitVec 32) : Fin 2 → Nat :=
  let c89 : Index := 89#32
  let arg0 : BitVec 32 := BitVec.ofNat 32 (i 0).val
  let c4_i32_1622 : BitVec 32 := 4#32
  let v3323 : BitVec 32 := Scalar.muli arg0 c4_i32_1622
  let v3324 : BitVec 32 := Scalar.addi v3323 c0_i32_1623
  let v3325 : Index := Scalar.indexCast v3324
  ![89, v3325.toNat]
def k0_off92 (i : grid0.Coords) (c0_i32_1641 : BitVec 32) : Fin 2 → Nat :=
  let c90 : Index := 90#32
  let arg0 : BitVec 32 := BitVec.ofNat 32 (i 0).val
  let c4_i32_1640 : BitVec 32 := 4#32
  let v3360 : BitVec 32 := Scalar.muli arg0 c4_i32_1640
  let v3361 : BitVec 32 := Scalar.addi v3360 c0_i32_1641
  let v3362 : Index := Scalar.indexCast v3361
  ![90, v3362.toNat]
def k0_off93 (i : grid0.Coords) (c0_i32_1659 : BitVec 32) : Fin 2 → Nat :=
  let c91 : Index := 91#32
  let arg0 : BitVec 32 := BitVec.ofNat 32 (i 0).val
  let c4_i32_1658 : BitVec 32 := 4#32
  let v3397 : BitVec 32 := Scalar.muli arg0 c4_i32_1658
  let v3398 : BitVec 32 := Scalar.addi v3397 c0_i32_1659
  let v3399 : Index := Scalar.indexCast v3398
  ![91, v3399.toNat]
def k0_off94 (i : grid0.Coords) (c0_i32_1677 : BitVec 32) : Fin 2 → Nat :=
  let c92 : Index := 92#32
  let arg0 : BitVec 32 := BitVec.ofNat 32 (i 0).val
  let c4_i32_1676 : BitVec 32 := 4#32
  let v3434 : BitVec 32 := Scalar.muli arg0 c4_i32_1676
  let v3435 : BitVec 32 := Scalar.addi v3434 c0_i32_1677
  let v3436 : Index := Scalar.indexCast v3435
  ![92, v3436.toNat]
def k0_off95 (i : grid0.Coords) (c0_i32_1695 : BitVec 32) : Fin 2 → Nat :=
  let c93 : Index := 93#32
  let arg0 : BitVec 32 := BitVec.ofNat 32 (i 0).val
  let c4_i32_1694 : BitVec 32 := 4#32
  let v3471 : BitVec 32 := Scalar.muli arg0 c4_i32_1694
  let v3472 : BitVec 32 := Scalar.addi v3471 c0_i32_1695
  let v3473 : Index := Scalar.indexCast v3472
  ![93, v3473.toNat]
def k0_off96 (i : grid0.Coords) (c0_i32_1713 : BitVec 32) : Fin 2 → Nat :=
  let c94 : Index := 94#32
  let arg0 : BitVec 32 := BitVec.ofNat 32 (i 0).val
  let c4_i32_1712 : BitVec 32 := 4#32
  let v3508 : BitVec 32 := Scalar.muli arg0 c4_i32_1712
  let v3509 : BitVec 32 := Scalar.addi v3508 c0_i32_1713
  let v3510 : Index := Scalar.indexCast v3509
  ![94, v3510.toNat]
def k0_off97 (i : grid0.Coords) (c0_i32_1731 : BitVec 32) : Fin 2 → Nat :=
  let c95 : Index := 95#32
  let arg0 : BitVec 32 := BitVec.ofNat 32 (i 0).val
  let c4_i32_1730 : BitVec 32 := 4#32
  let v3545 : BitVec 32 := Scalar.muli arg0 c4_i32_1730
  let v3546 : BitVec 32 := Scalar.addi v3545 c0_i32_1731
  let v3547 : Index := Scalar.indexCast v3546
  ![95, v3547.toNat]
def k0_off98 (i : grid0.Coords) (c0_i32_1752 : BitVec 32) : Fin 2 → Nat :=
  let c96 : Index := 96#32
  let arg0 : BitVec 32 := BitVec.ofNat 32 (i 0).val
  let c4_i32_1751 : BitVec 32 := 4#32
  let v3586 : BitVec 32 := Scalar.muli arg0 c4_i32_1751
  let v3587 : BitVec 32 := Scalar.addi v3586 c0_i32_1752
  let v3588 : Index := Scalar.indexCast v3587
  ![96, v3588.toNat]
def k0_off99 (i : grid0.Coords) (c0_i32_1770 : BitVec 32) : Fin 2 → Nat :=
  let c97 : Index := 97#32
  let arg0 : BitVec 32 := BitVec.ofNat 32 (i 0).val
  let c4_i32_1769 : BitVec 32 := 4#32
  let v3623 : BitVec 32 := Scalar.muli arg0 c4_i32_1769
  let v3624 : BitVec 32 := Scalar.addi v3623 c0_i32_1770
  let v3625 : Index := Scalar.indexCast v3624
  ![97, v3625.toNat]
def k0_off100 (i : grid0.Coords) (c0_i32_1788 : BitVec 32) : Fin 2 → Nat :=
  let c98 : Index := 98#32
  let arg0 : BitVec 32 := BitVec.ofNat 32 (i 0).val
  let c4_i32_1787 : BitVec 32 := 4#32
  let v3660 : BitVec 32 := Scalar.muli arg0 c4_i32_1787
  let v3661 : BitVec 32 := Scalar.addi v3660 c0_i32_1788
  let v3662 : Index := Scalar.indexCast v3661
  ![98, v3662.toNat]
def k0_off101 (i : grid0.Coords) (c0_i32_1806 : BitVec 32) : Fin 2 → Nat :=
  let c99 : Index := 99#32
  let arg0 : BitVec 32 := BitVec.ofNat 32 (i 0).val
  let c4_i32_1805 : BitVec 32 := 4#32
  let v3697 : BitVec 32 := Scalar.muli arg0 c4_i32_1805
  let v3698 : BitVec 32 := Scalar.addi v3697 c0_i32_1806
  let v3699 : Index := Scalar.indexCast v3698
  ![99, v3699.toNat]
def k0_off102 (i : grid0.Coords) (c0_i32_1824 : BitVec 32) : Fin 2 → Nat :=
  let c100 : Index := 100#32
  let arg0 : BitVec 32 := BitVec.ofNat 32 (i 0).val
  let c4_i32_1823 : BitVec 32 := 4#32
  let v3734 : BitVec 32 := Scalar.muli arg0 c4_i32_1823
  let v3735 : BitVec 32 := Scalar.addi v3734 c0_i32_1824
  let v3736 : Index := Scalar.indexCast v3735
  ![100, v3736.toNat]
def k0_off103 (i : grid0.Coords) (c0_i32_1842 : BitVec 32) : Fin 2 → Nat :=
  let c101 : Index := 101#32
  let arg0 : BitVec 32 := BitVec.ofNat 32 (i 0).val
  let c4_i32_1841 : BitVec 32 := 4#32
  let v3771 : BitVec 32 := Scalar.muli arg0 c4_i32_1841
  let v3772 : BitVec 32 := Scalar.addi v3771 c0_i32_1842
  let v3773 : Index := Scalar.indexCast v3772
  ![101, v3773.toNat]
def k0_off104 (i : grid0.Coords) (c0_i32_1860 : BitVec 32) : Fin 2 → Nat :=
  let c102 : Index := 102#32
  let arg0 : BitVec 32 := BitVec.ofNat 32 (i 0).val
  let c4_i32_1859 : BitVec 32 := 4#32
  let v3808 : BitVec 32 := Scalar.muli arg0 c4_i32_1859
  let v3809 : BitVec 32 := Scalar.addi v3808 c0_i32_1860
  let v3810 : Index := Scalar.indexCast v3809
  ![102, v3810.toNat]
def k0_off105 (i : grid0.Coords) (c0_i32_1878 : BitVec 32) : Fin 2 → Nat :=
  let c103 : Index := 103#32
  let arg0 : BitVec 32 := BitVec.ofNat 32 (i 0).val
  let c4_i32_1877 : BitVec 32 := 4#32
  let v3845 : BitVec 32 := Scalar.muli arg0 c4_i32_1877
  let v3846 : BitVec 32 := Scalar.addi v3845 c0_i32_1878
  let v3847 : Index := Scalar.indexCast v3846
  ![103, v3847.toNat]
def k0_off106 (i : grid0.Coords) (c0_i32_1896 : BitVec 32) : Fin 2 → Nat :=
  let c104 : Index := 104#32
  let arg0 : BitVec 32 := BitVec.ofNat 32 (i 0).val
  let c4_i32_1895 : BitVec 32 := 4#32
  let v3882 : BitVec 32 := Scalar.muli arg0 c4_i32_1895
  let v3883 : BitVec 32 := Scalar.addi v3882 c0_i32_1896
  let v3884 : Index := Scalar.indexCast v3883
  ![104, v3884.toNat]
def k0_off107 (i : grid0.Coords) (c0_i32_1914 : BitVec 32) : Fin 2 → Nat :=
  let c105 : Index := 105#32
  let arg0 : BitVec 32 := BitVec.ofNat 32 (i 0).val
  let c4_i32_1913 : BitVec 32 := 4#32
  let v3919 : BitVec 32 := Scalar.muli arg0 c4_i32_1913
  let v3920 : BitVec 32 := Scalar.addi v3919 c0_i32_1914
  let v3921 : Index := Scalar.indexCast v3920
  ![105, v3921.toNat]
def k0_off108 (i : grid0.Coords) (c0_i32_1932 : BitVec 32) : Fin 2 → Nat :=
  let c106 : Index := 106#32
  let arg0 : BitVec 32 := BitVec.ofNat 32 (i 0).val
  let c4_i32_1931 : BitVec 32 := 4#32
  let v3956 : BitVec 32 := Scalar.muli arg0 c4_i32_1931
  let v3957 : BitVec 32 := Scalar.addi v3956 c0_i32_1932
  let v3958 : Index := Scalar.indexCast v3957
  ![106, v3958.toNat]
def k0_off109 (i : grid0.Coords) (c0_i32_1950 : BitVec 32) : Fin 2 → Nat :=
  let c107 : Index := 107#32
  let arg0 : BitVec 32 := BitVec.ofNat 32 (i 0).val
  let c4_i32_1949 : BitVec 32 := 4#32
  let v3993 : BitVec 32 := Scalar.muli arg0 c4_i32_1949
  let v3994 : BitVec 32 := Scalar.addi v3993 c0_i32_1950
  let v3995 : Index := Scalar.indexCast v3994
  ![107, v3995.toNat]
def k0_off110 (i : grid0.Coords) (c0_i32_1968 : BitVec 32) : Fin 2 → Nat :=
  let c108 : Index := 108#32
  let arg0 : BitVec 32 := BitVec.ofNat 32 (i 0).val
  let c4_i32_1967 : BitVec 32 := 4#32
  let v4030 : BitVec 32 := Scalar.muli arg0 c4_i32_1967
  let v4031 : BitVec 32 := Scalar.addi v4030 c0_i32_1968
  let v4032 : Index := Scalar.indexCast v4031
  ![108, v4032.toNat]
def k0_off111 (i : grid0.Coords) (c0_i32_1986 : BitVec 32) : Fin 2 → Nat :=
  let c109 : Index := 109#32
  let arg0 : BitVec 32 := BitVec.ofNat 32 (i 0).val
  let c4_i32_1985 : BitVec 32 := 4#32
  let v4067 : BitVec 32 := Scalar.muli arg0 c4_i32_1985
  let v4068 : BitVec 32 := Scalar.addi v4067 c0_i32_1986
  let v4069 : Index := Scalar.indexCast v4068
  ![109, v4069.toNat]
def k0_off112 (i : grid0.Coords) (c0_i32_2004 : BitVec 32) : Fin 2 → Nat :=
  let c110 : Index := 110#32
  let arg0 : BitVec 32 := BitVec.ofNat 32 (i 0).val
  let c4_i32_2003 : BitVec 32 := 4#32
  let v4104 : BitVec 32 := Scalar.muli arg0 c4_i32_2003
  let v4105 : BitVec 32 := Scalar.addi v4104 c0_i32_2004
  let v4106 : Index := Scalar.indexCast v4105
  ![110, v4106.toNat]
def k0_off113 (i : grid0.Coords) (c0_i32_2022 : BitVec 32) : Fin 2 → Nat :=
  let c111 : Index := 111#32
  let arg0 : BitVec 32 := BitVec.ofNat 32 (i 0).val
  let c4_i32_2021 : BitVec 32 := 4#32
  let v4141 : BitVec 32 := Scalar.muli arg0 c4_i32_2021
  let v4142 : BitVec 32 := Scalar.addi v4141 c0_i32_2022
  let v4143 : Index := Scalar.indexCast v4142
  ![111, v4143.toNat]
def k0_off114 (i : grid0.Coords) (c0_i32_2043 : BitVec 32) : Fin 2 → Nat :=
  let c112 : Index := 112#32
  let arg0 : BitVec 32 := BitVec.ofNat 32 (i 0).val
  let c4_i32_2042 : BitVec 32 := 4#32
  let v4182 : BitVec 32 := Scalar.muli arg0 c4_i32_2042
  let v4183 : BitVec 32 := Scalar.addi v4182 c0_i32_2043
  let v4184 : Index := Scalar.indexCast v4183
  ![112, v4184.toNat]
def k0_off115 (i : grid0.Coords) (c0_i32_2061 : BitVec 32) : Fin 2 → Nat :=
  let c113 : Index := 113#32
  let arg0 : BitVec 32 := BitVec.ofNat 32 (i 0).val
  let c4_i32_2060 : BitVec 32 := 4#32
  let v4219 : BitVec 32 := Scalar.muli arg0 c4_i32_2060
  let v4220 : BitVec 32 := Scalar.addi v4219 c0_i32_2061
  let v4221 : Index := Scalar.indexCast v4220
  ![113, v4221.toNat]
def k0_off116 (i : grid0.Coords) (c0_i32_2079 : BitVec 32) : Fin 2 → Nat :=
  let c114 : Index := 114#32
  let arg0 : BitVec 32 := BitVec.ofNat 32 (i 0).val
  let c4_i32_2078 : BitVec 32 := 4#32
  let v4256 : BitVec 32 := Scalar.muli arg0 c4_i32_2078
  let v4257 : BitVec 32 := Scalar.addi v4256 c0_i32_2079
  let v4258 : Index := Scalar.indexCast v4257
  ![114, v4258.toNat]
def k0_off117 (i : grid0.Coords) (c0_i32_2097 : BitVec 32) : Fin 2 → Nat :=
  let c115 : Index := 115#32
  let arg0 : BitVec 32 := BitVec.ofNat 32 (i 0).val
  let c4_i32_2096 : BitVec 32 := 4#32
  let v4293 : BitVec 32 := Scalar.muli arg0 c4_i32_2096
  let v4294 : BitVec 32 := Scalar.addi v4293 c0_i32_2097
  let v4295 : Index := Scalar.indexCast v4294
  ![115, v4295.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S116x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x14848 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S14848x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S14848x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S384x14848 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x384x14848 : Shape := ⟨3, ![1, 384, 14848]⟩
abbrev S14848x8192 : Shape := ⟨2, ![14848, 8192]⟩
abbrev S116x64 : Shape := ⟨2, ![116, 64]⟩
abbrev S14848x16 : Shape := ⟨2, ![14848, 16]⟩
abbrev S16x8192 : Shape := ⟨2, ![16, 8192]⟩
abbrev S1x384x8192 : Shape := ⟨3, ![1, 384, 8192]⟩
abbrev S1x384x116 : Shape := ⟨3, ![1, 384, 116]⟩
abbrev S1x384x116x128 : Shape := ⟨4, ![1, 384, 116, 128]⟩
abbrev S1x384x116x1 : Shape := ⟨4, ![1, 384, 116, 1]⟩
abbrev S116x128x64x128 : Shape := ⟨4, ![116, 128, 64, 128]⟩
abbrev S116x1x64x1 : Shape := ⟨4, ![116, 1, 64, 1]⟩
abbrev S1x384x16 : Shape := ⟨3, ![1, 384, 16]⟩

abbrev nBuf : Space → Nat
  | .hbm => 8
  | .vmem => 8
  | .smem => 0
  | _ => 0

abbrev bufTy : (tb : Table) → Fin (tcTables nBuf tb) → BufTy
  | .hbm, ⟨0, _⟩ => ⟨S1x384x14848, .bf16⟩
  | .hbm, ⟨1, _⟩ => ⟨S14848x8192, .fp8e4m3⟩
  | .hbm, ⟨2, _⟩ => ⟨S116x64, .f32⟩
  | .hbm, ⟨3, _⟩ => ⟨S14848x16, .bf16⟩
  | .hbm, ⟨4, _⟩ => ⟨S16x8192, .bf16⟩
  | .hbm, ⟨5, _⟩ => ⟨S1x384x8192, .bf16⟩
  | .hbm, ⟨6, _⟩ => ⟨S1x384x14848, .fp8e4m3⟩
  | .hbm, ⟨7, _⟩ => ⟨S1x384x116, .f32⟩
  | .local _ .vmem, ⟨0, _⟩ => ⟨S1x384x14848, .bf16⟩
  | .local _ .vmem, ⟨1, _⟩ => ⟨S14848x8192, .fp8e4m3⟩
  | .local _ .vmem, ⟨2, _⟩ => ⟨S116x64, .f32⟩
  | .local _ .vmem, ⟨3, _⟩ => ⟨S14848x16, .bf16⟩
  | .local _ .vmem, ⟨4, _⟩ => ⟨S16x8192, .bf16⟩
  | .local _ .vmem, ⟨5, _⟩ => ⟨S1x384x8192, .bf16⟩
  | .local _ .vmem, ⟨6, _⟩ => ⟨S1x384x14848, .fp8e4m3⟩
  | .local _ .vmem, ⟨7, _⟩ => ⟨S1x384x116, .f32⟩
  | _, _ => ⟨S1x384x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x384x14848 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14848x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S116x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14848x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x384x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x384x14848 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x384x116 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Loop.lean ====
/- The loop over the 116 groups of 128 columns at the first grid point: what one trip stores into the codes, the
   scales and the dequantised activations, and the loop's invariant. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## What one trip stores -/

/-- Trip `k`'s columns `128 k … 128 k + 127` of the activations. -/
abbrev tripRect (k : Fin k0_t1_loop.trips) : Rect S384x14848 :=
  Rect.unit (s := S384x14848) (k0_off1 k) S384x128.size (fun a => k0_off1_inb (grid0.coords (0 : Fin 16)) k (by decide) a)

/-- The codes of a group of 128 columns `v`. -/
def codesOf (v : Vec F S384x128 .bf16) : FVec F S384x128 .fp8e4m3 :=
  k0_pay12 (k0_pay2 v) (k0_pay7 (k0_pay3 v) (k0_pay4 v) (k0_pay5 v)) (k0_pay8 (k0_pay3 v) (k0_pay4 v) (k0_pay5 v))

/-- The dequantised activations of a group of 128 columns `v`. -/
def deqOf (v : Vec F S384x128 .bf16) : FVec F S384x128 .bf16 :=
  k0_pay13 (k0_pay2 v) (k0_pay7 (k0_pay3 v) (k0_pay4 v) (k0_pay5 v)) (k0_pay8 (k0_pay3 v) (k0_pay4 v) (k0_pay5 v))

/-- The lanes of scales `s` once lane `l` holds the scale of the group `v`. -/
def scalesOf (l : BitVec 32) (v : Vec F S384x128 .bf16) (s : Vec F S384x128 .f32) : FVec F S384x128 .f32 :=
  k0_pay14 l (k0_pay7 (k0_pay3 v) (k0_pay4 v) (k0_pay5 v)) (k0_pay8 (k0_pay3 v) (k0_pay4 v) (k0_pay5 v)) s

/-- The columns trip `k` reads of activations held as the contents `X`. -/
abbrev colsAt (arg2 : Memref sig .tc .vmem S384x14848 .bf16) (X : BufTy.Contents (Elt F) arg2.view.ty) (k : Fin k0_t1_loop.trips) :
    Vec F S384x128 .bf16 := arg2.view.readAt (Elt F) (tripRect k).toLoadRect X

/-- A buffer's contents before trip `k` when trip `k` stores `w k` into its columns, from the contents `G` at the loop's entry. -/
def storesAt {κ : Kind} {sp : Space} {e : EltTy} (v : View sig κ sp S384x14848 e) (w : Fin k0_t1_loop.trips → S384x128.Idx → Elt F e)
    (G : BufTy.Contents (Elt F) v.ty) : ℕ → BufTy.Contents (Elt F) v.ty
  | 0 => G
  | k + 1 => if h : k < k0_t1_loop.trips then v.writes (Elt F) (storesAt v w G k) [⟨tripRect ⟨k, h⟩, w ⟨k, h⟩⟩] else storesAt v w G k

/-- The contents of the codes' buffer before trip `k`, from the contents `G` at the loop's entry. -/
abbrev codesAt (arg2 : Memref sig .tc .vmem S384x14848 .bf16) (arg7 : Memref sig .tc .vmem S384x14848 .fp8e4m3)
    (X : BufTy.Contents (Elt F) arg2.view.ty) (G : BufTy.Contents (Elt F) arg7.view.ty) : ℕ → BufTy.Contents (Elt F) arg7.view.ty :=
  storesAt arg7.view (fun k => codesOf (colsAt arg2 X k)) G

/-- The contents of the dequantised activations' buffer before trip `k`, from the contents `G` at the loop's entry. -/
abbrev deqAt (arg2 : Memref sig .tc .vmem S384x14848 .bf16) (arg9 : Memref sig .tc .vmem S384x14848 .bf16)
    (X : BufTy.Contents (Elt F) arg2.view.ty) (G : BufTy.Contents (Elt F) arg9.view.ty) : ℕ → BufTy.Contents (Elt F) arg9.view.ty :=
  storesAt arg9.view (fun k => deqOf (colsAt arg2 X k)) G

/-- The contents of the scales' buffer before trip `k`, from the contents `G` at the loop's entry. -/
def scalesAt (arg2 : Memref sig .tc .vmem S384x14848 .bf16) (arg8 : Memref sig .tc .vmem S384x128 .f32)
    (X : BufTy.Contents (Elt F) arg2.view.ty) (G : BufTy.Contents (Elt F) arg8.view.ty) : ℕ → BufTy.Contents (Elt F) arg8.view.ty
  | 0 => G
  | k + 1 => if h : k < k0_t1_loop.trips then
      arg8.view.writes (Elt F) (scalesAt arg2 arg8 X G k)
        [⟨Rect.unit (s := S384x128) ![0, 0] S384x128.size inb_S384x128_S384x128_0_0,
          scalesOf (Scf.iv 0#32 1#32 (⟨k, h⟩ : Fin k0_t1_loop.trips)) (colsAt arg2 X ⟨k, h⟩)
            (arg8.view.readAt (Elt F) (Rect.unit (s := S384x128) ![0, 0] S384x128.size inb_S384x128_S384x128_0_0).toLoadRect
              (scalesAt arg2 arg8 X G k))⟩]
    else scalesAt arg2 arg8 X G k

/-- Trip `k` writes its columns. -/
theorem storesAt_succ {κ : Kind} {sp : Space} {e : EltTy} (v : View sig κ sp S384x14848 e) (w : Fin k0_t1_loop.trips → S384x128.Idx → Elt F e)
    (G : BufTy.Contents (Elt F) v.ty) (k : Fin k0_t1_loop.trips) :
    storesAt v w G (k.val + 1) = v.writes (Elt F) (storesAt v w G k.val) [⟨tripRect k, w k⟩] := by
  rw [storesAt, dif_pos k.isLt]

/-- Trip `k` writes its group's scales into lane `k`. -/
theorem scalesAt_succ (arg2 : Memref sig .tc .vmem S384x14848 .bf16) (arg8 : Memref sig .tc .vmem S384x128 .f32)
    (X : BufTy.Contents (Elt F) arg2.view.ty) (G : BufTy.Contents (Elt F) arg8.view.ty) (k : Fin k0_t1_loop.trips) :
    scalesAt arg2 arg8 X G (k.val + 1) = arg8.view.writes (Elt F) (scalesAt arg2 arg8 X G k.val)
        [⟨Rect.unit (s := S384x128) ![0, 0] S384x128.size inb_S384x128_S384x128_0_0,
          scalesOf (Scf.iv 0#32 1#32 k) (colsAt arg2 X k)
            (arg8.view.readAt (Elt F) (Rect.unit (s := S384x128) ![0, 0] S384x128.size inb_S384x128_S384x128_0_0).toLoadRect
              (scalesAt arg2 arg8 X G k.val))⟩] := by
  rw [scalesAt, dif_pos k.isLt]

/-! ## The loop -/

variable (𝒱 : Variants) (c : Dev nD) (bd : Option 𝒱.V) (E : Set ℕ) (i : grid0.Coords)
    (arg1 : Memref sig .tc .smem S116x64 .f32) (harg1 : arg1.IsWhole) (arg2 : Memref sig .tc .vmem S384x14848 .bf16) (harg2 : arg2.IsWhole)
    (arg3 : Memref sig .tc .vmem S14848x512 .fp8e4m3) (harg3 : arg3.IsWhole) (arg4 : Memref sig .tc .vmem S14848x16 .bf16) (harg4 : arg4.IsWhole)
    (arg5 : Memref sig .tc .vmem S16x512 .bf16) (harg5 : arg5.IsWhole) (arg6 : Memref sig .tc .vmem S384x512 .bf16) (harg6 : arg6.IsWhole)
    (arg7 : Memref sig .tc .vmem S384x14848 .fp8e4m3) (harg7 : arg7.IsWhole) (arg8 : Memref sig .tc .vmem S384x128 .f32) (harg8 : arg8.IsWhole)
    (arg9 : Memref sig .tc .vmem S384x14848 .bf16) (harg9 : arg9.IsWhole) (arg10 : Memref sig .tc .vmem S384x16 .bf16) (harg10 : arg10.IsWhole)
    (h1 : k0_cond1 i = 1#1)

/-- The class of invariants of the loop over the groups. -/
abbrev GroupLoop : Type _ :=
  Idealize.ShloMosaic.LoopInv (M := 𝕄) Idealize.ShloMosaic.frame (wpE (defs₀ (F := F)) 𝒱 (c : Thread nD τ) bd) E
    k0_t1_loop.lb k0_t1_loop.ub k0_t1_loop.st (k0_t1_ok i h1) ()
    (k0_t1_body (F := F) i arg1 harg1 arg2 harg2 arg3 harg3 arg4 harg4 arg5 harg5 arg6 harg6 arg7 harg7 arg8 harg8 arg9 harg9 arg10 harg10 h1)

variable (X : BufTy.Contents (Elt F) arg2.view.ty) (G7 : BufTy.Contents (Elt F) arg7.view.ty)
    (G8 : BufTy.Contents (Elt F) arg8.view.ty) (G9 : BufTy.Contents (Elt F) arg9.view.ty)

/-- Before trip `k`: the activations as they were, the three written buffers at what the first `k` trips left. -/
abbrev groupInv (k : ℕ) (_ : Unit) : sProp 𝕄 :=
  iprop((arg2.view.loc (c : Thread nD τ) ↦[arg2.view.set]{fullShare} X)
    ∗ (∃ f, (arg7.view.loc (c : Thread nD τ) ↦[arg7.view.set]{fullShare} f) ∗ ⌜f = codesAt arg2 arg7 X G7 k⌝)
    ∗ (∃ f, (arg8.view.loc (c : Thread nD τ) ↦[arg8.view.set]{fullShare} f) ∗ ⌜f = scalesAt arg2 arg8 X G8 k⌝)
    ∗ (∃ f, (arg9.view.loc (c : Thread nD τ) ↦[arg9.view.set]{fullShare} f) ∗ ⌜f = deqAt arg2 arg9 X G9 k⌝))

set_option warn.classDefReducibility false in
/-- The loop over the groups by its invariant. -/
@[sl_loop] def groupLoop : GroupLoop (F := F) 𝒱 c bd E i arg1 harg1 arg2 harg2 arg3 harg3 arg4 harg4 arg5 harg5 arg6 harg6 arg7 harg7 arg8 harg8 arg9 harg9 arg10 harg10 h1 where
  inv := groupInv (F := F) c arg2 arg7 arg8 arg9 X G7 G8 G9
  step k acc := by
    have hk : k.val < 116 := Nat.lt_of_lt_of_le k.isLt k0_t1_abs.2.1
    unfold k0_t1_body
    iintro ⟨H2, ⟨%f7, H7, %h7⟩, ⟨%f8, H8, %h8⟩, ⟨%f9, H9, %h9⟩⟩
    sl_exec
    sl_step
    isplitl [H2]; · iexact H2
    isplitl [H7]
    · iexists _; isplitl [H7]; · iexact H7
      ipureintro; subst h7; exact (storesAt_succ arg7.view (fun k => codesOf (colsAt arg2 X k)) G7 k).symm
    isplitl [H8]
    · iexists _; isplitl [H8]; · iexact H8
      ipureintro; subst h8; exact (scalesAt_succ arg2 arg8 X G8 k).symm
    iexists _; isplitl [H9]; · iexact H9
    ipureintro; subst h9; exact (storesAt_succ arg9.view (fun k => deqOf (colsAt arg2 X k)) G9 k).symm

end Cert.Fp8

end
-- ==== Proof.Block.lean ====
/- What one grid point computes: the tile of the product it stores, from the scales, the weights' codes, the
   dequantised activations, the low-rank activations and the tile of their second factor. -/
module

public import proofs.«01_k».proof.Proof.Gen.KernelIdeal.Skeleton
public import Idealize.ShloMosaic.Lib.WritesUnit
public import Idealize.ShloMosaic.Lib.WholeRead
public import Idealize.ShloMosaic.Lib.ValueIdxCore

@[expose] public section

set_option maxRecDepth 16384

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

/-- A buffer whose last store covered it whole reads as what that store stored. -/
theorem read_stored {κ : Kind} {sp : Space} {S : Shape} {e : EltTy} {Val : EltTy → Type} (v : View sig κ sp S e) (f : BufTy.Contents Val v.ty)
    {off : Fin S.rank → ℕ} (inb : ∀ a, off a + S.size a ≤ S.size a) (w : S.Idx → Val e) (L : List (View.Piece Val S e)) (h : ∀ a, off a = 0) :
    v.read Val (v.writes Val f ((⟨Rect.unit off S.size inb, w⟩ : View.Piece Val S e) :: L)) = w :=
  funext fun y => View.read_writes_cons_unit_of_mem v f inb w L y y (funext h : off = fun _ => 0) (fun a => (Nat.zero_add _).symm)

/-! ## The computation of one tile -/

section
variable (sc : Fin 116 → Fin 4 → Elt F .f32) (wb : Fin 116 → Fin 4 → Vec F S128x128 .fp8e4m3)
    (xs : Fin 7 → Vec F S384x2048 .bf16) (xl : Vec F S384x512 .bf16) (tt : Vec F S384x16 .bf16) (lb : Vec F S16x512 .bf16)

/-- The dequantised 128 by 128 block of weights of group `g` and column block `r`: the codes times the block's scale. -/
def wBlock (g : Fin 116) (r : Fin 4) : FVec F S128x128 .bf16 :=
  mulf (extf .bf16 (wb g r) bitsLt_fp8e4m3_bf16) (broadcast S128x128 (Scalar.truncf .bf16 bitsLt_bf16_f32 (sc g r)))

/-- The dequantised 128 rows of weights of group `g`. -/
def wGroup (g : Fin 116) : FVec F S128x512 .bf16 :=
  concatenate S128x512 1 [⟨S128x128, wBlock sc wb g 0⟩, ⟨S128x128, wBlock sc wb g 1⟩, ⟨S128x128, wBlock sc wb g 2⟩, ⟨S128x128, wBlock sc wb g 3⟩]
    concatenates_S128x128_S128x128_S128x128_S128x128_S128x512_d1

/-- The dequantised 2048 rows of weights of slice `q` of the contraction. -/
def wSlice (q : Fin 7) : FVec F S2048x512 .bf16 :=
  concatenate S2048x512 0 [⟨S128x512, wGroup sc wb ⟨16 * q.val + 0, by omega⟩⟩, ⟨S128x512, wGroup sc wb ⟨16 * q.val + 1, by omega⟩⟩, ⟨S128x512, wGroup sc wb ⟨16 * q.val + 2, by omega⟩⟩, ⟨S128x512, wGroup sc wb ⟨16 * q.val + 3, by omega⟩⟩, ⟨S128x512, wGroup sc wb ⟨16 * q.val + 4, by omega⟩⟩, ⟨S128x512, wGroup sc wb ⟨16 * q.val + 5, by omega⟩⟩, ⟨S128x512, wGroup sc wb ⟨16 * q.val + 6, by omega⟩⟩, ⟨S128x512, wGroup sc wb ⟨16 * q.val + 7, by omega⟩⟩, ⟨S128x512, wGroup sc wb ⟨16 * q.val + 8, by omega⟩⟩, ⟨S128x512, wGroup sc wb ⟨16 * q.val + 9, by omega⟩⟩, ⟨S128x512, wGroup sc wb ⟨16 * q.val + 10, by omega⟩⟩, ⟨S128x512, wGroup sc wb ⟨16 * q.val + 11, by omega⟩⟩, ⟨S128x512, wGroup sc wb ⟨16 * q.val + 12, by omega⟩⟩, ⟨S128x512, wGroup sc wb ⟨16 * q.val + 13, by omega⟩⟩, ⟨S128x512, wGroup sc wb ⟨16 * q.val + 14, by omega⟩⟩, ⟨S128x512, wGroup sc wb ⟨16 * q.val + 15, by omega⟩⟩]
    concatenates_S128x512_S128x512_S128x512_S128x512_S128x512_S128x512_S128x512_S128x512_S128x512_S128x512_S128x512_S128x512_S128x512_S128x512_S128x512_S128x512_S2048x512_d0

/-- The dequantised last 512 rows of weights. -/
def wLast : FVec F S512x512 .bf16 :=
  concatenate S512x512 0 [⟨S128x512, wGroup sc wb 112⟩, ⟨S128x512, wGroup sc wb 113⟩, ⟨S128x512, wGroup sc wb 114⟩, ⟨S128x512, wGroup sc wb 115⟩]
    concatenates_S128x512_S128x512_S128x512_S128x512_S512x512_d0

/-- The sum after adding slice `q` of the contraction to `a`. -/
def addSlice (a : FVec F S384x512 .f32) (q : Fin 7) : FVec F S384x512 .f32 :=
  addf a (matmul dot_S384x2048_S2048x512_S384x512_1_0_0_1_n_n none (xs q) (wSlice sc wb q) (constant S384x512 .f32 0x00000000#32))

/-- The tile of the product: from twice the low-rank activations times their second factor, the seven slices of 2048
    and the last one of 512 added in turn. -/
def yBlock : FVec F S384x512 .bf16 :=
  truncf .bf16 (addf
    (addSlice sc wb xs (addSlice sc wb xs (addSlice sc wb xs (addSlice sc wb xs (addSlice sc wb xs (addSlice sc wb xs (addSlice sc wb xs
      (k0_pay16 tt lb) 0) 1) 2) 3) 4) 5) 6)
    (matmul dot_S384x512_S512x512_S384x512_1_0_0_1_n_n none xl (wLast sc wb) (constant S384x512 .f32 0x00000000#32))) bitsLt_bf16_f32
end

/-! ## What one grid point reads -/

/-- Where the scale of group `g` and of column block `4 i + r` lies in the table of scales. -/
def sclOff (i : grid0.Coords) (g : ℕ) (r : BitVec 32) : Fin 2 → ℕ :=
  ![g, (Scalar.indexCast (Scalar.addi (Scalar.muli (BitVec.ofNat 32 (i 0).val) 4#32) r)).toNat]

/-- It lies at row `g`, column `4 i + r`. -/
theorem sclOff_eq (i : grid0.Coords) (g : ℕ) (r : Fin 4) :
    sclOff i g (BitVec.ofNat 32 r.val) = ![g, 4 * (i 0).val + r.val] := by
  have h : ∀ (n : Fin 16) (r : Fin 4), (Scalar.indexCast (Scalar.addi (Scalar.muli (BitVec.ofNat 32 n.val) 4#32) (BitVec.ofNat 32 r.val))).toNat
      = 4 * n.val + r.val := by decide +kernel
  unfold sclOff; rw [h (i 0) r]

theorem coord_lt (i : grid0.Coords) : (i 0).val < 16 := (i 0).isLt

theorem sclOff_inb (i : grid0.Coords) (g : Fin 116) (r : Fin 4) (a : Fin 2) :
    (sclOff i g.val (BitVec.ofNat 32 r.val)) a + S1x1.size a ≤ S116x64.size a := by
  rw [sclOff_eq]
  have hi := coord_lt i
  have := g.isLt; have := r.isLt
  fin_cases a
  · change g.val + 1 ≤ 116; omega
  · change 4 * (i 0).val + r.val + 1 ≤ 64; omega

theorem readW_inb (g : Fin 116) (r : Fin 4) (a : Fin 2) :
    (![128 * g.val, 128 * r.val] : Fin 2 → ℕ) a + S128x128.size a ≤ S14848x512.size a := by
  have := g.isLt; have := r.isLt
  fin_cases a
  · change 128 * g.val + 128 ≤ 14848; omega
  · change 128 * r.val + 128 ≤ 512; omega

theorem readX_inb (q : Fin 7) (a : Fin 2) :
    (![0, 2048 * q.val] : Fin 2 → ℕ) a + S384x2048.size a ≤ S384x14848.size a := by
  have := q.isLt
  fin_cases a
  · change 0 + 384 ≤ 384; omega
  · change 2048 * q.val + 2048 ≤ 14848; omega

/-- The scale of group `g` and column block `4 i + r`, as the body loads it. -/
abbrev readScale (arg1 : Memref sig .tc .smem S116x64 .f32) (X : BufTy.Contents (Elt F) arg1.view.ty) (i : grid0.Coords) (g : Fin 116) (r : Fin 4) : Elt F .f32 :=
  arg1.view.readAt (Elt F) (Rect.unit (s := S116x64) (sclOff i g.val (BitVec.ofNat 32 r.val)) S1x1.size (sclOff_inb i g r)).toLoadRect X
    (Shape.Idx.first (numel1_S1x1.symm ▸ Nat.one_pos))

/-- The codes of the weights' block of group `g` and column block `r`, as the body loads them. -/
abbrev readW (arg3 : Memref sig .tc .vmem S14848x512 .fp8e4m3) (X : BufTy.Contents (Elt F) arg3.view.ty) (g : Fin 116) (r : Fin 4) : Vec F S128x128 .fp8e4m3 :=
  arg3.view.readAt (Elt F) (Rect.unit (s := S14848x512) ![128 * g.val, 128 * r.val] S128x128.size (readW_inb g r)).toLoadRect X

/-- The dequantised activations of slice `q`, as the body loads them. -/
abbrev readX (arg9 : Memref sig .tc .vmem S384x14848 .bf16) (X : BufTy.Contents (Elt F) arg9.view.ty) (q : Fin 7) : Vec F S384x2048 .bf16 :=
  arg9.view.readAt (Elt F) (Rect.unit (s := S384x14848) ![0, 2048 * q.val] S384x2048.size (readX_inb q)).toLoadRect X

/-- The dequantised activations of the last slice, as the body loads them. -/
abbrev readXLast (arg9 : Memref sig .tc .vmem S384x14848 .bf16) (X : BufTy.Contents (Elt F) arg9.view.ty) : Vec F S384x512 .bf16 :=
  arg9.view.readAt (Elt F) (Rect.unit (s := S384x14848) ![0, 14336] S384x512.size inb_S384x14848_S384x512_0_14336).toLoadRect X

/-- The tile of the product stored at grid point `i`, from the table of scales `x0`, the codes `x2` of the tile's weights, the
    dequantised activations `xd`, the low-rank activations `tt` and the tile `x4` of their second factor. -/
def yTile (i : grid0.Coords) (x0 : Vec F S116x64 .f32) (x2 : Vec F S14848x512 .fp8e4m3) (x4 : Vec F S16x512 .bf16)
    (xd : Vec F S384x14848 .bf16) (tt : Vec F S384x16 .bf16) : FVec F S384x512 .bf16 :=
  yBlock (fun g r => x0 (ix2 g ⟨4 * (i 0).val + r.val, by have := coord_lt i; omega⟩))
    (fun g r j => x2 (ix2 ⟨128 * g.val + (j 0).val, by have := idx2_lt0 j; omega⟩ ⟨128 * r.val + (j 1).val, by have := idx2_lt1 j; omega⟩))
    (fun q j => xd (ix2 (j 0) ⟨2048 * q.val + (j 1).val, by have := idx2_lt1 j; omega⟩))
    (fun j => xd (ix2 (j 0) ⟨14336 + (j 1).val, by have := idx2_lt1 j; omega⟩)) tt x4

/-- A load of a whole rank-2 buffer held at `x` reads `x`. -/
theorem readAt_whole {κ : Kind} {sp : Space} {n m : ℕ} {e : EltTy} {M : Memref sig κ sp ⟨2, ![n, m]⟩ e} (h : M.IsWhole) (x : Vec F ⟨2, ![n, m]⟩ e)
    (inb : ∀ a, (![0, 0] : Fin 2 → ℕ) a + (⟨2, ![n, m]⟩ : Shape).size a ≤ (⟨2, ![n, m]⟩ : Shape).size a) :
    M.view.readAt (Elt F) (Rect.unit (s := ⟨2, ![n, m]⟩) ![0, 0] (⟨2, ![n, m]⟩ : Shape).size inb).toLoadRect (h.unread x) = x := by
  funext j
  refine (h.readAt_unread x (Rect.unit (s := ⟨2, ![n, m]⟩) ![0, 0] (⟨2, ![n, m]⟩ : Shape).size inb).toLoadRect j).trans (congrArg x (funext fun a => Fin.ext ?_))
  match a with
  | ⟨0, _⟩ => show 0 + 1 * (j 0).val = (j 0).val; omega
  | ⟨1, _⟩ => show 0 + 1 * (j 1).val = (j 1).val; omega

/-- The tile computed from what the body loads of whole buffers is the tile of their contents. -/
theorem yBlock_eq (i : grid0.Coords) {arg1 : Memref sig .tc .smem S116x64 .f32} (harg1 : arg1.IsWhole) {arg3 : Memref sig .tc .vmem S14848x512 .fp8e4m3}
    (harg3 : arg3.IsWhole) {arg9 : Memref sig .tc .vmem S384x14848 .bf16} (harg9 : arg9.IsWhole) (x0 : Vec F S116x64 .f32) (x2 : Vec F S14848x512 .fp8e4m3)
    (xd : Vec F S384x14848 .bf16) (tt : Vec F S384x16 .bf16) (x4 : Vec F S16x512 .bf16) :
    yBlock (readScale arg1 (harg1.unread x0) i) (readW arg3 (harg3.unread x2)) (readX arg9 (harg9.unread xd)) (readXLast arg9 (harg9.unread xd)) tt x4
      = yTile i x0 x2 x4 xd tt := by
  have e1 : readScale arg1 (harg1.unread x0) i = fun g r => x0 (ix2 g ⟨4 * (i 0).val + r.val, by have := coord_lt i; omega⟩) := by
    funext g r
    refine (harg1.readAt_unread x0 (Rect.unit (s := S116x64) (sclOff i g.val (BitVec.ofNat 32 r.val)) S1x1.size (sclOff_inb i g r)).toLoadRect _).trans
      (congrArg x0 (funext fun a => Fin.ext ?_))
    have h := sclOff_eq i g.val r
    match a with
    | ⟨0, _⟩ => show sclOff i g.val (BitVec.ofNat 32 r.val) 0 + 1 * 0 = g.val; rw [h]; rfl
    | ⟨1, _⟩ => show sclOff i g.val (BitVec.ofNat 32 r.val) 1 + 1 * 0 = 4 * (i 0).val + r.val; rw [h]; rfl
  have e2 : readW arg3 (harg3.unread x2) = fun g r j => x2 (ix2 ⟨128 * g.val + (j 0).val, by have := idx2_lt0 j; omega⟩ ⟨128 * r.val + (j 1).val, by have := idx2_lt1 j; omega⟩) := by
    funext g r j
    refine (harg3.readAt_unread x2 (Rect.unit (s := S14848x512) ![128 * g.val, 128 * r.val] S128x128.size (readW_inb g r)).toLoadRect j).trans
      (congrArg x2 (funext fun a => Fin.ext ?_))
    match a with
    | ⟨0, _⟩ => show 128 * g.val + 1 * (j 0).val = 128 * g.val + (j 0).val; omega
    | ⟨1, _⟩ => show 128 * r.val + 1 * (j 1).val = 128 * r.val + (j 1).val; omega
  have e3 : readX arg9 (harg9.unread xd) = fun q j => xd (ix2 (j 0) ⟨2048 * q.val + (j 1).val, by have := idx2_lt1 j; omega⟩) := by
    funext q j
    refine (harg9.readAt_unread xd (Rect.unit (s := S384x14848) ![0, 2048 * q.val] S384x2048.size (readX_inb q)).toLoadRect j).trans
      (congrArg xd (funext fun a => Fin.ext ?_))
    match a with
    | ⟨0, _⟩ => show 0 + 1 * (j 0).val = (j 0).val; omega
    | ⟨1, _⟩ => show 2048 * q.val + 1 * (j 1).val = 2048 * q.val + (j 1).val; omega
  have e4 : readXLast arg9 (harg9.unread xd) = fun j => xd (ix2 (j 0) ⟨14336 + (j 1).val, by have := idx2_lt1 j; omega⟩) := by
    funext j
    refine (harg9.readAt_unread xd (Rect.unit (s := S384x14848) ![0, 14336] S384x512.size inb_S384x14848_S384x512_0_14336).toLoadRect j).trans
      (congrArg xd (funext fun a => Fin.ext ?_))
    match a with
    | ⟨0, _⟩ => show 0 + 1 * (j 0).val = (j 0).val; omega
    | ⟨1, _⟩ => show 14336 + 1 * (j 1).val = 14336 + (j 1).val; omega
  rw [e1, e2, e3, e4]; rfl

end Cert.Fp8

end
-- ==== Proof.Trip.lean ====
/- What the loop over the groups leaves: the codes, the dequantised activations and the scales as functions of
   the activations. -/
module

public import proofs.«01_k».proof.Proof.Loop
public import proofs.«01_k».proof.Proof.Block
public import Idealize.ShloMosaic.Lib.WholeRead
public import Idealize.ShloMosaic.Lib.ValueIdxCore

@[expose] public section

set_option maxRecDepth 16384

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

/-- The loop makes 116 trips. -/
theorem trips_eq : k0_t1_loop.trips = 116 := by decide +kernel

/-- Trip `k`'s columns start at `128 k`. -/
theorem off_eq : ∀ k : Fin k0_t1_loop.trips, k0_off1 k = ![0, 128 * k.val] := by decide +kernel

/-- Trip `k`'s counter is `k`. -/
theorem iv_eq (k : ℕ) : Scf.iv 0#32 1#32 k = BitVec.ofNat 32 k := by simp [Scf.iv]

/-- Group `g` of the activations: the columns `128 g … 128 g + 127`. -/
def groupOf (x : Vec F S384x14848 .bf16) (g : Fin 116) : Vec F S384x128 .bf16 :=
  fun j => x (ix2 (j 0) ⟨128 * g.val + (j 1).val, by have := g.isLt; have := idx2_lt1 j; omega⟩)

/-- The array whose group `g` of 128 columns is `w g`. -/
def ofGroups {e : EltTy} (w : Fin 116 → S384x128.Idx → Elt F e) : S384x14848.Idx → Elt F e :=
  fun y => w ⟨(y 1).val / 128, by have := idx2_lt1 y; omega⟩ (ix2 (y 0) ⟨(y 1).val % 128, Nat.mod_lt _ (by decide)⟩)

/-- The codes of all activations. -/
def codesV (x : Vec F S384x14848 .bf16) : Vec F S384x14848 .fp8e4m3 := ofGroups fun g => codesOf (groupOf x g)

/-- The dequantised activations. -/
def deqV (x : Vec F S384x14848 .bf16) : Vec F S384x14848 .bf16 := ofGroups fun g => deqOf (groupOf x g)

/-- The lanes of scales after the first `k` groups, zero at first. -/
def scalesN (x : Vec F S384x14848 .bf16) : ℕ → Vec F S384x128 .f32
  | 0 => k0_pay9
  | k + 1 => if h : k < 116 then scalesOf (BitVec.ofNat 32 k) (groupOf x ⟨k, h⟩) (scalesN x k) else scalesN x k

/-- The columns a trip reads of whole activations `x` are group `k`. -/
theorem colsAt_eq (arg2 : Memref sig .tc .vmem S384x14848 .bf16) (harg2 : arg2.IsWhole) (x : Vec F S384x14848 .bf16) (k : Fin k0_t1_loop.trips) :
    colsAt arg2 (harg2.unread x) k = groupOf x ⟨k.val, lt_of_lt_of_eq k.isLt trips_eq⟩ := by
  funext j
  refine (harg2.readAt_unread x (tripRect k).toLoadRect j).trans (congrArg x ?_)
  refine (eq_ix2 _).trans ?_
  have h := off_eq k
  funext a
  match a with
  | ⟨0, _⟩ => exact Fin.ext (show k0_off1 k 0 + 1 * (j 0).val = (j 0).val by rw [h]; simp)
  | ⟨1, _⟩ => exact Fin.ext (show k0_off1 k 1 + 1 * (j 1).val = 128 * k.val + (j 1).val by rw [h]; simp)

/-- After `n` trips, the columns below `128 n` read as what their trip stored. -/
theorem read_storesAt {κ : Kind} {sp : Space} {e : EltTy} (v : View sig κ sp S384x14848 e) (w : Fin 116 → S384x128.Idx → Elt F e)
    (G : BufTy.Contents (Elt F) v.ty) (n : ℕ) (hn : n ≤ 116) (y : S384x14848.Idx) (hy : (y 1).val < 128 * n) :
    v.read (Elt F) (storesAt v (fun k => w ⟨k.val, lt_of_lt_of_eq k.isLt trips_eq⟩) G n) y = ofGroups w y := by
  induction n with
  | zero => exact absurd hy (by omega)
  | succ n ih =>
    have hk : n < k0_t1_loop.trips := lt_of_lt_of_eq (by omega) trips_eq.symm
    rw [storesAt_succ v _ G ⟨n, hk⟩]
    by_cases h : (y 1).val < 128 * n
    · rw [View.read_writes_cons_unit_of_not_mem v _ _ _ _ y (off_eq ⟨n, hk⟩) 1 (Or.inl h)]
      exact ih (by omega) h
    · have hd : (y 1).val / 128 = n := by omega
      have e : ofGroups w y = w ⟨n, by omega⟩ (ix2 (y 0) ⟨(y 1).val % 128, Nat.mod_lt _ (by decide)⟩) := by
        exact congrFun (congrArg w (Fin.ext hd : (⟨(y 1).val / 128, by have := idx2_lt1 y; omega⟩ : Fin 116) = ⟨n, by omega⟩)) _
      rw [e]
      exact View.read_writes_cons_unit_of_mem v _ _ _ _ y (ix2 (y 0) ⟨(y 1).val % 128, Nat.mod_lt _ (by decide)⟩) (off_eq ⟨n, hk⟩) (fun a => by
        match a with
        | ⟨0, _⟩ => exact (Nat.zero_add _).symm
        | ⟨1, _⟩ => show (y 1).val = 128 * n + (y 1).val % 128; omega)

/-- After the loop the whole array reads as what the trips stored. -/
theorem read_stores {κ : Kind} {sp : Space} {e : EltTy} (v : View sig κ sp S384x14848 e) (w : Fin 116 → S384x128.Idx → Elt F e)
    (G : BufTy.Contents (Elt F) v.ty) :
    v.read (Elt F) (storesAt v (fun k => w ⟨k.val, lt_of_lt_of_eq k.isLt trips_eq⟩) G k0_t1_loop.trips) = ofGroups w := by
  exact funext fun y => read_storesAt v w G _ (le_of_eq trips_eq) y (by rw [trips_eq]; have := idx2_lt1 y; omega)

/-- The codes' buffer after the loop. -/
theorem read_codesAt (arg2 : Memref sig .tc .vmem S384x14848 .bf16) (harg2 : arg2.IsWhole) (arg7 : Memref sig .tc .vmem S384x14848 .fp8e4m3)
    (x : Vec F S384x14848 .bf16) (G : BufTy.Contents (Elt F) arg7.view.ty) :
    arg7.view.read (Elt F) (codesAt arg2 arg7 (harg2.unread x) G k0_t1_loop.trips) = codesV x := by
  unfold codesAt; simp only [colsAt_eq arg2 harg2 x]
  exact read_stores arg7.view (fun g => codesOf (groupOf x g)) G

/-- The dequantised activations' buffer after the loop. -/
theorem read_deqAt (arg2 : Memref sig .tc .vmem S384x14848 .bf16) (harg2 : arg2.IsWhole) (arg9 : Memref sig .tc .vmem S384x14848 .bf16)
    (x : Vec F S384x14848 .bf16) (G : BufTy.Contents (Elt F) arg9.view.ty) :
    arg9.view.read (Elt F) (deqAt arg2 arg9 (harg2.unread x) G k0_t1_loop.trips) = deqV x := by
  unfold deqAt; simp only [colsAt_eq arg2 harg2 x]
  exact read_stores arg9.view (fun g => deqOf (groupOf x g)) G

/-- The scales' buffer before trip `n`, if it reads zero at the loop's entry. -/
theorem read_scalesAt (arg2 : Memref sig .tc .vmem S384x14848 .bf16) (harg2 : arg2.IsWhole) (arg8 : Memref sig .tc .vmem S384x128 .f32)
    (x : Vec F S384x14848 .bf16) (G : BufTy.Contents (Elt F) arg8.view.ty) (hG : arg8.view.read (Elt F) G = k0_pay9) (n : ℕ) (hn : n ≤ 116) :
    arg8.view.read (Elt F) (scalesAt arg2 arg8 (harg2.unread x) G n) = scalesN x n := by
  induction n with
  | zero => exact hG
  | succ n ih =>
    have hk : n < k0_t1_loop.trips := lt_of_lt_of_eq (by omega) trips_eq.symm
    rw [scalesAt_succ arg2 arg8 (harg2.unread x) G ⟨n, hk⟩, read_stored arg8.view _ _ _ _ (by decide), scalesN, dif_pos (by omega : n < 116),
      colsAt_eq arg2 harg2 x, iv_eq]
    refine congrArg (scalesOf _ _) ?_
    rw [← ih (by omega)]
    funext j
    refine congrArg (arg8.view.read (Elt F) _) ?_
    refine funext fun a => Fin.ext ?_
    match a with
    | ⟨0, _⟩ => show 0 + 1 * (j 0).val = (j 0).val; omega
    | ⟨1, _⟩ => show 0 + 1 * (j 1).val = (j 1).val; omega

/-- The contents the zero fill leaves in the scales' buffer. -/
abbrev zeroFilled (arg8 : Memref sig .tc .vmem S384x128 .f32) : BufTy.Contents (Elt F) arg8.view.ty :=
  View.write (Elt F) (arg8.view.slice (Sigma.fst (β := fun r : Rect S384x128 => r.shape.Idx → Elt F .f32) ⟨Rect.unit ![0, 0] S384x128.size inb_S384x128_S384x128_0_0, k0_pay9⟩))
    (arg8.view.writes (Elt F) arg8.view.junk []) k0_pay9 Finset.univ

/-- It reads zero. -/
theorem read_zeroFilled (arg8 : Memref sig .tc .vmem S384x128 .f32) : arg8.view.read (Elt F) (zeroFilled arg8) = k0_pay9 :=
  read_stored (Val := Elt F) arg8.view arg8.view.junk inb_S384x128_S384x128_0_0 k0_pay9 [] (by decide)

/-- The scales' buffer after the loop entered at the zero fill. -/
theorem read_scales (arg2 : Memref sig .tc .vmem S384x14848 .bf16) (harg2 : arg2.IsWhole) (arg8 : Memref sig .tc .vmem S384x128 .f32)
    (x : Vec F S384x14848 .bf16) :
    arg8.view.read (Elt F) (scalesAt arg2 arg8 (harg2.unread x) (zeroFilled arg8) k0_t1_loop.trips) = scalesN x 116 := by
  rw [trips_eq]
  exact read_scalesAt arg2 harg2 arg8 x (zeroFilled arg8) (read_zeroFilled arg8) 116 le_rfl

end Cert.Fp8

end
-- ==== Proof.RunB.lean ====
/- The body's run at the grid points after the first. -/
module

public import proofs.«01_k».proof.Proof.Loop
public import proofs.«01_k».proof.Proof.Block
public import Idealize.ShloMosaic.Lib.Pipeline.FrameBody
public import Idealize.ShloMosaic.Lib.WholeRead

@[expose] public section

set_option maxRecDepth 16384

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 10268000 in
/-- The body at a later grid point: it stores its tile of the product computed from the dequantised activations and the
    low-rank activations the first point left, and leaves everything else as it was. -/
theorem runB (c : Dev nD) (i : grid0.Coords) (arg1 : Memref sig .tc .smem S116x64 .f32) (harg1 : arg1.IsWhole) (arg2 : Memref sig .tc .vmem S384x14848 .bf16) (harg2 : arg2.IsWhole)
    (arg3 : Memref sig .tc .vmem S14848x512 .fp8e4m3) (harg3 : arg3.IsWhole) (arg4 : Memref sig .tc .vmem S14848x16 .bf16) (harg4 : arg4.IsWhole)
    (arg5 : Memref sig .tc .vmem S16x512 .bf16) (harg5 : arg5.IsWhole) (arg6 : Memref sig .tc .vmem S384x512 .bf16) (harg6 : arg6.IsWhole)
    (arg7 : Memref sig .tc .vmem S384x14848 .fp8e4m3) (harg7 : arg7.IsWhole) (arg8 : Memref sig .tc .vmem S384x128 .f32) (harg8 : arg8.IsWhole)
    (arg9 : Memref sig .tc .vmem S384x14848 .bf16) (harg9 : arg9.IsWhole) (arg10 : Memref sig .tc .vmem S384x16 .bf16) (harg10 : arg10.IsWhole)
    (hc0 : ¬ k0_cond1 i = 1#1)
    (x0 : Vec F S116x64 .f32) (x1 : Vec F S384x14848 .bf16) (x2 : Vec F S14848x512 .fp8e4m3) (x3 : Vec F S14848x16 .bf16) (x4 : Vec F S16x512 .bf16)
    (q7 : Vec F S384x14848 .fp8e4m3) (q8 : Vec F S384x128 .f32) (xd : Vec F S384x14848 .bf16) (tt : Vec F S384x16 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare q7 ∗ owns (c : Thread nD τ) arg8 fullShare q8 ∗ owns (c : Thread nD τ) arg9 fullShare xd ∗ owns (c : Thread nD τ) arg10 fullShare tt
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yTile i x0 x2 x4 xd tt) ∗ owns (c : Thread nD τ) arg7 fullShare q7 ∗ owns (c : Thread nD τ) arg8 fullShare q8 ∗ owns (c : Thread nD τ) arg9 fullShare xd ∗ owns (c : Thread nD τ) arg10 fullShare tt) -∗ K ⟨⟩))
          ⊢ wp frame (wpE (defs₀ (F := F)) Variants.none c none) E (cc0_fp8_linear_lora i arg1 harg1 arg2 harg2 arg3 harg3 arg4 harg4 arg5 harg5 arg6 harg6 arg7 harg7 arg8 harg8 arg9 harg9 arg10 harg10) K := by
    intro E K
    simp only [cc0_fp8_linear_lora_eq_skeleton]; unfold cc0_fp8_linear_lora_skel
    simp only [k0_part114_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part115_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7; obtain rfl := harg9.eq_unread hfs0; obtain rfl := harg10.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (read_stored arg6.view f5 _ _ _ (by decide)).trans ?_
      change yBlock (readScale arg1 (harg1.unread x0) i) (readW arg3 (harg3.unread x2)) (readX arg9 (harg9.unread xd)) (readXLast arg9 (harg9.unread xd))
        (arg10.view.readAt (Elt F) (Rect.unit (s := S384x16) ![0, 0] S384x16.size inb_S384x16_S384x16_0_0).toLoadRect (harg10.unread tt))
        (arg5.view.readAt (Elt F) (Rect.unit (s := S16x512) ![0, 0] S16x512.size inb_S16x512_S16x512_0_0).toLoadRect (harg5.unread x4)) = _
      rw [show (arg10.view.readAt (Elt F) (Rect.unit (s := S384x16) ![0, 0] S384x16.size inb_S384x16_S384x16_0_0).toLoadRect (harg10.unread tt)) = tt from readAt_whole harg10 tt _,
        show (arg5.view.readAt (Elt F) (Rect.unit (s := S16x512) ![0, 0] S16x512.size inb_S16x512_S16x512_0_0).toLoadRect (harg5.unread x4)) = x4 from readAt_whole harg5 x4 _]
      exact yBlock_eq i harg1 harg3 harg9 x0 x2 xd tt x4
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    iexists _; isplitr; · ipureintro; exact harg10.read_unread _
    iexact HS1

end Cert.Fp8

end
-- ==== Proof.RunA.lean ====
/- The body's run at the first grid point. -/
module

public import proofs.«01_k».proof.Proof.Trip
public import proofs.«01_k».proof.Proof.RunB
public import Idealize.ShloMosaic.Lib.Pipeline.FrameBody
public import Idealize.ShloMosaic.Lib.Pipeline.ValueKit.Basic

@[expose] public section

set_option maxRecDepth 16384

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 10268000 in
/-- The body at the first grid point: it fills the codes, the scales, the dequantised activations and the low-rank
    activations, and stores its tile of the product computed from them. -/
theorem runA (c : Dev nD) (i : grid0.Coords) (arg1 : Memref sig .tc .smem S116x64 .f32) (harg1 : arg1.IsWhole) (arg2 : Memref sig .tc .vmem S384x14848 .bf16) (harg2 : arg2.IsWhole)
    (arg3 : Memref sig .tc .vmem S14848x512 .fp8e4m3) (harg3 : arg3.IsWhole) (arg4 : Memref sig .tc .vmem S14848x16 .bf16) (harg4 : arg4.IsWhole)
    (arg5 : Memref sig .tc .vmem S16x512 .bf16) (harg5 : arg5.IsWhole) (arg6 : Memref sig .tc .vmem S384x512 .bf16) (harg6 : arg6.IsWhole)
    (arg7 : Memref sig .tc .vmem S384x14848 .fp8e4m3) (harg7 : arg7.IsWhole) (arg8 : Memref sig .tc .vmem S384x128 .f32) (harg8 : arg8.IsWhole)
    (arg9 : Memref sig .tc .vmem S384x14848 .bf16) (harg9 : arg9.IsWhole) (arg10 : Memref sig .tc .vmem S384x16 .bf16) (harg10 : arg10.IsWhole)
    (hc0 : k0_cond1 i = 1#1)
    (x0 : Vec F S116x64 .f32) (x1 : Vec F S384x14848 .bf16) (x2 : Vec F S14848x512 .fp8e4m3) (x3 : Vec F S14848x16 .bf16) (x4 : Vec F S16x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
              ∗ owns (c : Thread nD τ) arg6 fullShare (yTile i x0 x2 x4 (deqV x1) (k0_pay15 x1 x3))
              ∗ owns (c : Thread nD τ) arg7 fullShare (codesV x1) ∗ owns (c : Thread nD τ) arg8 fullShare (scalesN x1 116)
              ∗ owns (c : Thread nD τ) arg9 fullShare (deqV x1) ∗ owns (c : Thread nD τ) arg10 fullShare (k0_pay15 x1 x3)) -∗ K ⟨⟩))
          ⊢ wp frame (wpE (defs₀ (F := F)) Variants.none c none) E (cc0_fp8_linear_lora i arg1 harg1 arg2 harg2 arg3 harg3 arg4 harg4 arg5 harg5 arg6 harg6 arg7 harg7 arg8 harg8 arg9 harg9 arg10 harg10) K := by
    intro E K
    simp only [cc0_fp8_linear_lora_eq_skeleton]; unfold cc0_fp8_linear_lora_skel
    simp only [k0_part114_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part115_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (read_stored arg6.view f5 _ _ _ (by decide)).trans ?_
      have e9 : deqAt arg2 arg9 (harg2.unread x1) fs0 k0_t1_loop.trips = harg9.unread (deqV x1) := harg9.eq_unread (read_deqAt arg2 harg2 arg9 x1 fs0)
      change yBlock (readScale arg1 (harg1.unread x0) i) (readW arg3 (harg3.unread x2)) (readX arg9 (deqAt arg2 arg9 (harg2.unread x1) fs0 k0_t1_loop.trips))
        (readXLast arg9 (deqAt arg2 arg9 (harg2.unread x1) fs0 k0_t1_loop.trips)) (runA.sl.v3 c arg2 harg2 arg4 harg4 arg10 x1 x3)
        (arg5.view.readAt (Elt F) (Rect.unit (s := S16x512) ![0, 0] S16x512.size inb_S16x512_S16x512_0_0).toLoadRect (harg5.unread x4)) = _
      rw [e9, show (arg5.view.readAt (Elt F) (Rect.unit (s := S16x512) ![0, 0] S16x512.size inb_S16x512_S16x512_0_0).toLoadRect (harg5.unread x4)) = x4 from readAt_whole harg5 x4 _]
      have et : runA.sl.v3 c arg2 harg2 arg4 harg4 arg10 x1 x3 = k0_pay15 x1 x3 := by
        sl_unfold_words
        refine (View.readCov_unit_lit arg10.view _ _ (by decide)).trans ?_
        rw [show (arg2.view.readAt (Elt F) (Rect.unit (s := S384x14848) ![0, 0] S384x14848.size inb_S384x14848_S384x14848_0_0).toLoadRect (harg2.unread x1)) = x1 from readAt_whole harg2 x1 _,
          show (arg4.view.readAt (Elt F) (Rect.unit (s := S14848x16) ![0, 0] S14848x16.size inb_S14848x16_S14848x16_0_0).toLoadRect (harg4.unread x3)) = x3 from readAt_whole harg4 x3 _]
      rw [et]
      exact yBlock_eq i harg1 harg3 harg9 x0 x2 (deqV x1) (k0_pay15 x1 x3) x4
    isplitl [H6]
    · iexists _; isplitr; swap; · iexact H6
      ipureintro; exact read_codesAt arg2 harg2 arg7 x1 f6
    isplitl [H7]
    · iexists _; isplitr; swap; · iexact H7
      ipureintro
      exact read_scales arg2 harg2 arg8 x1
    isplitl [HS0]
    · iexists _; isplitr; swap; · iexact HS0
      ipureintro; exact read_deqAt arg2 harg2 arg9 x1 fs0
    iexists _; isplitr; swap; · iexact HS1
    ipureintro
    refine (read_stored arg10.view fs1 _ _ _ (by decide)).trans ?_
    rw [show (arg2.view.readAt (Elt F) (Rect.unit (s := S384x14848) ![0, 0] S384x14848.size inb_S384x14848_S384x14848_0_0).toLoadRect (harg2.unread x1)) = x1 from readAt_whole harg2 x1 _,
      show (arg4.view.readAt (Elt F) (Rect.unit (s := S14848x16) ![0, 0] S14848x16.size inb_S14848x16_S14848x16_0_0).toLoadRect (harg4.unread x3)) = x3 from readAt_whole harg4 x3 _]

end Cert.Fp8

end
-- ==== Proof.Frame.lean ====
/- The run of the whole idealized kernel, with what it leaves in its result arrays. -/
module

public import proofs.«01_k».proof.Proof.RunA
public import proofs.«01_k».proof.Proof.RunB
public import proofs.«01_k».proof.Proof.Gen.KernelIdeal.Frame
public import Idealize.ShloMosaic.Lib.Pipeline.FrameSuffix
public import Idealize.ShloMosaic.Lib.Pipeline.TableIdle
public import Idealize.ShloMosaic.Lib.WordCmp
public import Idealize.ShloMosaic.Lib.Claim

@[expose] public section

set_option maxRecDepth 16384

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the points differ -/

/-- The quantising branch is taken at the first point only. -/
theorem first_iff (t : Fin cfg0.N) : k0_cond1 (grid0.coords t) = 1#1 ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val % 16 = 0) t

/-- The two scratch operands: the dequantised activations and the low-rank activations. -/
abbrev scrXd : Memref sig .tc .vmem S384x14848 .bf16 := Memref.whole cc0_scratch0
abbrev scrT : Memref sig .tc .vmem S384x16 .bf16 := Memref.whole cc0_scratch1

/-- What the kernel owns of its own: the scratch operands at some contents and the generator register. -/
theorem ownRest_eq (c : Dev nD) :
    (Pipeline.ΦA spec0 c : sProp 𝕄)
      = iprop(iprop((∃ d, owns (c : Thread nD τ) scrXd fullShare d) ∗ (∃ d, owns (c : Thread nD τ) scrT fullShare d)) ∗ (∃ r, prngReg c r)) := by
  unfold Pipeline.ΦA; rw [scopedRest0_eq]; simp only [scrXd, scrT, owns_whole]; try rfl

/-! ## What is carried from the first point -/

/-- The activations as the first point finds them. -/
def xFirst (c : Dev nD) : Vec F S384x14848 .bf16 := iblk m c 1 t0_0
/-- The first low-rank factor as the first point finds it. -/
def laFirst (c : Dev nD) : Vec F S14848x16 .bf16 := iblk m c 3 t0_0
/-- The low-rank activations. -/
def tFirst (c : Dev nD) : Vec F S384x16 .bf16 := k0_pay15 (xFirst m c) (laFirst m c)

/-- The invariant between points: before the first the scratch operands hold anything, afterwards they hold the
    dequantised activations and the low-rank activations. -/
def held (c : Dev nD) (n : ℕ) : sProp 𝕄 :=
  if n = 0 then Pipeline.ΦA spec0 c
  else iprop(iprop(owns (c : Thread nD τ) scrXd fullShare (deqV (xFirst m c)) ∗ owns (c : Thread nD τ) scrT fullShare (tFirst m c)) ∗ (∃ r, prngReg c r))

theorem held_out (c : Dev nD) (n : ℕ) : held m c n ⊢ Pipeline.ΦA spec0 c := by
  unfold held
  split
  · exact .rfl
  · rw [ownRest_eq]
    iintro ⟨⟨H0, H1⟩, Hg⟩
    isplitl [H0 H1]
    · isplitl [H0]
      · iexists _; iexact H0
      iexists _; iexact H1
    iexact Hg

/-- The proof data: each input's buffer at its block, the product's buffer at its tile, the codes' and the scales' buffers
    at what the first point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yTile (grid0.coords t) (iblk m c 0 t) (iblk m c 2 t) (iblk m c 4 t) (deqV (xFirst m c)) (tFirst m c)
    | ⟨6, _⟩ => codesV (xFirst m c)
    | ⟨7, _⟩ => scalesN (xFirst m c) 116
  Φ u := held m c u.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = yTile (grid0.coords t) (iblk m c 0 t) (iblk m c 2 t) (iblk m c 4 t) (deqV (xFirst m c)) (tFirst m c) := by dsimp only [dats]
theorem after_6 (c : Dev nD) (t : Fin cfg0.N) : (dats m 0 c).after 6 t = codesV (xFirst m c) := by dsimp only [dats]
theorem after_7 (c : Dev nD) (t : Fin cfg0.N) : (dats m 0 c).after 7 t = scalesN (xFirst m c) 116 := by dsimp only [dats]

/-- Each input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- A window written back at the last point only, and stored into at the first, is not fresh after the first point. -/
theorem not_fresh (w : Fin cfg0.W) (hfl : ∀ t : Fin cfg0.N, (cfg0.win w).flush t = true → t.val % 16 = 15)
    (hi : cfg0.idle w (grid0.coords t0_0) = false) :
    ∀ n, (h : n + 1 < 16) → cfg0.fresh w (n + 1) = false
  | 0, h => by
    have hN : 0 < cfg0.N := lt_of_lt_of_eq (by omega) (show cfg0.N = 16 from N_0).symm
    rw [Pipeline.Cfg.fresh_succ cfg0 w 0 hN]
    have : (cfg0.win w).flush ⟨0, hN⟩ = false := Bool.eq_false_iff.mpr fun h => by have := hfl _ h; simp at this
    have hi' : cfg0.idle w (cfg0.grid.coords ⟨0, hN⟩) = false := hi
    rw [this, hi']; rfl
  | n + 1, h => by
    have hN : n + 1 < cfg0.N := lt_of_lt_of_eq (by omega) (show cfg0.N = 16 from N_0).symm
    rw [Pipeline.Cfg.fresh_succ cfg0 w (n + 1) hN, not_fresh w hfl hi n (by omega)]
    have : (cfg0.win w).flush ⟨n + 1, hN⟩ = false := Bool.eq_false_iff.mpr fun h' => by
      have := hfl _ h'; simp only at this; omega
    rw [this, Bool.and_false]; rfl

/-- After the first point the codes' buffer holds the codes. -/
theorem before_6 (c : Dev nD) (t : Fin cfg0.N) (ht : t.val ≠ 0) (d) : (dats m 0 c).before 6 t d = codesV (xFirst m c) := by
  rw [(dats m 0 c).before_out_traj 6 rfl (fun _ _ => rfl) (fun t _ _ _ => by rw [after_6, after_6]) t.val t rfl d]
  have h16 : t.val < 16 := lt_of_lt_of_eq t.isLt (show cfg0.N = 16 from N_0)
  obtain ⟨n, hn⟩ := Nat.exists_eq_succ_of_ne_zero ht
  have hfr : cfg0.fresh 6 t.val = false := by
    rw [hn]; exact not_fresh 6 (fun t h => (flush0_6 t).mp h) (by rw [show cfg0.idle 6 (grid0.coords t0_0) = !(k0_cond1 (grid0.coords t0_0) == 1#1) from rfl, (first_iff t0_0).mpr rfl]; rfl) n (by omega)
  rw [hfr]
  exact (if_neg Bool.false_ne_true).trans (after_6 m c _)

/-- After the first point the scales' buffer holds the scales. -/
theorem before_7 (c : Dev nD) (t : Fin cfg0.N) (ht : t.val ≠ 0) (d) : (dats m 0 c).before 7 t d = scalesN (xFirst m c) 116 := by
  rw [(dats m 0 c).before_out_traj 7 rfl (fun _ _ => rfl) (fun t _ _ _ => by rw [after_7, after_7]) t.val t rfl d]
  have h16 : t.val < 16 := lt_of_lt_of_eq t.isLt (show cfg0.N = 16 from N_0)
  obtain ⟨n, hn⟩ := Nat.exists_eq_succ_of_ne_zero ht
  have hfr : cfg0.fresh 7 t.val = false := by
    rw [hn]; exact not_fresh 7 (fun t h => (flush0_7 t).mp h) (by rw [show cfg0.idle 7 (grid0.coords t0_0) = !(k0_cond1 (grid0.coords t0_0) == 1#1) from rfl, (first_iff t0_0).mpr rfl]; rfl) n (by omega)
  rw [hfr]
  exact (if_neg Bool.false_ne_true).trans (after_7 m c _)

/-- A buffer holding what the body is to leave there satisfies what the pipeline asks of it, at a point the window is
    not idle at, and at an idle point where it held the same before. -/
theorem leaves_of (c : Dev nD) (w : Fin cfg0.W) (t : Fin cfg0.N)
    (h : cfg0.idle w (cfg0.grid.coords t) = false ∨ ∀ d, (dats m 0 c).before w t d = (dats m 0 c).after w t) :
    owns (c : Thread nD τ) ((cfg0.win w).stage (cfg0.slots t w)) fullShare ((dats m 0 c).after w t) ⊢ ((dats m 0 c).leavesExact w t : sProp 𝕄) := by
  unfold Dat.leavesExact
  rcases h with h | h
  · rw [h]
  · cases cfg0.idle w (cfg0.grid.coords t)
    · exact .rfl
    · cases (cfg0.win w).flush t
      · simp only [h]
        iintro H; iexists ((dats m 0 c).after w t); iexact H
      · exact .rfl

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at the first point. -/
theorem sound_first (c : Dev nD) :
    bodyPre m c t0_0 ⊢ wp frame (wpE (defs₀ (F := F)) Variants.none c none) Set.univ (bodyAt0 t0_0) (fun _ => bodyPost m c t0_0) := by
  have hc : k0_cond1 (grid0.coords t0_0) = 1#1 := (first_iff t0_0).mpr rfl
  unfold bodyPre bodyPost bodyAt0
  simp only [before_0, before_1, before_2, before_3, before_4]
  rw [show (dats m 0 c).Φ (t0_0 : Fin cfg0.N).castSucc = held m c 0 from rfl, show (dats m 0 c).Φ (t0_0 : Fin cfg0.N).succ = held m c 1 from rfl,
    show (dats m 0 c).owesAt () (t0_0 : Fin cfg0.N).succ = (dats m 0 c).owesAt () (t0_0 : Fin cfg0.N).castSucc from rfl]
  rw [show held m c 0 = Pipeline.ΦA spec0 c from rfl, ownRest_eq,
    show held m c 1 = iprop(iprop(owns (c : Thread nD τ) scrXd fullShare (deqV (xFirst m c)) ∗ owns (c : Thread nD τ) scrT fullShare (tFirst m c)) ∗ (∃ r, prngReg c r)) from rfl]
  have L0 := leaves_of m c 0 t0_0 (.inl rfl)
  have L1 := leaves_of m c 1 t0_0 (.inl rfl)
  have L2 := leaves_of m c 2 t0_0 (.inl rfl)
  have L3 := leaves_of m c 3 t0_0 (.inl rfl)
  have L4 := leaves_of m c 4 t0_0 (.inl rfl)
  have L5 := leaves_of m c 5 t0_0 (.inl rfl)
  have L6 := leaves_of m c 6 t0_0 (.inl (by rw [show cfg0.idle 6 (cfg0.grid.coords t0_0) = !(k0_cond1 (grid0.coords t0_0) == 1#1) from rfl, hc]; rfl))
  have L7 := leaves_of m c 7 t0_0 (.inl (by rw [show cfg0.idle 7 (cfg0.grid.coords t0_0) = !(k0_cond1 (grid0.coords t0_0) == 1#1) from rfl, hc]; rfl))
  rw [after_0] at L0; rw [after_1] at L1; rw [after_2] at L2; rw [after_3] at L3; rw [after_4] at L4; rw [after_5] at L5; rw [after_6] at L6; rw [after_7] at L7
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t0_0) _ _ _ _ _ _ _ _ _ _ _ _ _ _ _ _ _ _ _ _ hc (iblk m c 0 t0_0) (iblk m c 1 t0_0) (iblk m c 2 t0_0) (iblk m c 3 t0_0) (iblk m c 4 t0_0)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iapply L0; iexact H0
  isplitl [H1]; · iapply L1; iexact H1
  isplitl [H2]; · iapply L2; iexact H2
  isplitl [H3]; · iapply L3; iexact H3
  isplitl [H4]; · iapply L4; iexact H4
  isplitl [H5]; · iapply L5; iexact H5
  isplitl [H6]; · iapply L6; iexact H6
  iapply L7; iexact H7

set_option maxHeartbeats 1600000 in
/-- The body at a later point. -/
theorem sound_later (c : Dev nD) (t : Fin cfg0.N) (ht : t.val ≠ 0) :
    bodyPre m c t ⊢ wp frame (wpE (defs₀ (F := F)) Variants.none c none) Set.univ (bodyAt0 t) (fun _ => bodyPost m c t) := by
  have h16 : t.val < 16 := lt_of_lt_of_eq t.isLt (show cfg0.N = 16 from N_0)
  have hc : ¬ k0_cond1 (grid0.coords t) = 1#1 := fun h => by have := (first_iff t).mp h; omega
  unfold bodyPre bodyPost bodyAt0
  simp only [before_0, before_1, before_2, before_3, before_4, before_6 m c t ht, before_7 m c t ht]
  rw [show (dats m 0 c).Φ t.castSucc = held m c t.val from rfl, show (dats m 0 c).Φ t.succ = held m c (t.val + 1) from rfl,
    show (dats m 0 c).owesAt () t.succ = (dats m 0 c).owesAt () t.castSucc from rfl]
  rw [show held m c t.val = iprop(iprop(owns (c : Thread nD τ) scrXd fullShare (deqV (xFirst m c)) ∗ owns (c : Thread nD τ) scrT fullShare (tFirst m c)) ∗ (∃ r, prngReg c r)) from if_neg ht,
    show held m c (t.val + 1) = iprop(iprop(owns (c : Thread nD τ) scrXd fullShare (deqV (xFirst m c)) ∗ owns (c : Thread nD τ) scrT fullShare (tFirst m c)) ∗ (∃ r, prngReg c r)) from if_neg (Nat.succ_ne_zero _)]
  have L0 := leaves_of m c 0 t (.inl rfl)
  have L1 := leaves_of m c 1 t (.inl rfl)
  have L2 := leaves_of m c 2 t (.inl rfl)
  have L3 := leaves_of m c 3 t (.inl rfl)
  have L4 := leaves_of m c 4 t (.inl rfl)
  have L5 := leaves_of m c 5 t (.inl rfl)
  have L6 := leaves_of m c 6 t (.inr fun d => (before_6 m c t ht d).trans (after_6 m c t).symm)
  have L7 := leaves_of m c 7 t (.inr fun d => (before_7 m c t ht d).trans (after_7 m c t).symm)
  rw [after_0] at L0; rw [after_1] at L1; rw [after_2] at L2; rw [after_3] at L3; rw [after_4] at L4; rw [after_5] at L5; rw [after_6] at L6; rw [after_7] at L7
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) _ _ _ _ _ _ _ _ _ _ _ _ _ _ _ _ _ _ _ _ hc (iblk m c 0 t) (iblk m c 1 t) (iblk m c 2 t) (iblk m c 3 t) (iblk m c 4 t)
    (codesV (xFirst m c)) (scalesN (xFirst m c) 116) (deqV (xFirst m c)) (tFirst m c)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iapply L0; iexact H0
  isplitl [H1]; · iapply L1; iexact H1
  isplitl [H2]; · iapply L2; iexact H2
  isplitl [H3]; · iapply L3; iexact H3
  isplitl [H4]; · iapply L4; iexact H4
  isplitl [H5]; · iapply L5; iexact H5
  isplitl [H6]; · iapply L6; iexact H6
  iapply L7; iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases ht : t.val = 0
  · obtain rfl : t = t0_0 := Fin.ext ht
    exact sound_first m c
  · exact sound_later m c t ht

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The whole run: every final state has each window's array at what the proof data says, every other buffer at what the
    host lines leave, and every semaphore counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := fun c => held_out m c (Fin.last cfg0.N).val)

/-- The frame: the arguments end unchanged and every semaphore counter is zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Fp8

end
-- ==== Proof.KernelFrame.Shared.lean ====
/- What the runs of the kernel's body share: its branch condition in closed form, its memrefs, its scratch operands. -/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v2, main_v3, main_v4, main_v5}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 2 rfl).trans ((hA c 2).trans (V_main_arg1 m c)),
      (Pipeline.RDat.FramePostR.arr_in h c 0 rfl).trans ((hA c 0).trans (V_main_arg2 m c)),
      (Pipeline.RDat.FramePostR.arr_in h c 3 rfl).trans ((hA c 3).trans (V_main_arg3 m c)),
      (Pipeline.RDat.FramePostR.arr_in h c 4 rfl).trans ((hA c 4).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S116x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x14848 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S14848x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S14848x16 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S384x14848 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S384x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S384x14848 .bf16 := Memref.whole cc0_scratch0
abbrev scM0_1 : Memref sig .tc .vmem S384x16 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelFrame

end
-- ==== Proof.KernelFrame.RunA.lean ====
/- The kernel's body at the first grid point, nothing stated of what it leaves in its results. -/
module

public import proofs.«01_k».proof.Proof.KernelFrame.Shared

@[expose] public section

-- membership in a rectangle of production extents (`View.cover_of_tiled`): the elaborator's structural look
-- recurses once per coordinate of the long axes
set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 10376000 in
/-- The body's triple IN CASE A (`scf.if` 0 taken: points 0): on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S116x64 .f32) (harg1 : arg1.IsWhole) (arg2 : Memref sig .tc .vmem S384x14848 .bf16) (harg2 : arg2.IsWhole) (arg3 : Memref sig .tc .vmem S14848x512 .fp8e4m3) (harg3 : arg3.IsWhole) (arg4 : Memref sig .tc .vmem S14848x16 .bf16) (harg4 : arg4.IsWhole) (arg5 : Memref sig .tc .vmem S16x512 .bf16) (harg5 : arg5.IsWhole) (arg6 : Memref sig .tc .vmem S384x512 .bf16) (harg6 : arg6.IsWhole) (arg7 : Memref sig .tc .vmem S384x14848 .fp8e4m3) (harg7 : arg7.IsWhole) (arg8 : Memref sig .tc .vmem S384x128 .f32) (harg8 : arg8.IsWhole) (arg9 : Memref sig .tc .vmem S384x14848 .bf16) (harg9 : arg9.IsWhole) (arg10 : Memref sig .tc .vmem S384x16 .bf16) (harg10 : arg10.IsWhole) (hc0 : cond0_0 i)
    (x0 : Vec F S116x64 .f32) (x1 : Vec F S384x14848 .bf16) (x2 : Vec F S14848x512 .fp8e4m3) (x3 : Vec F S14848x16 .bf16) (x4 : Vec F S16x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_fp8_linear_lora i arg1 harg1 arg2 harg2 arg3 harg3 arg4 harg4 arg5 harg5 arg6 harg6 arg7 harg7 arg8 harg8 arg9 harg9 arg10 harg10) K := by
    intro E K
    simp only [cc0_fp8_linear_lora_eq_skeleton]; unfold cc0_fp8_linear_lora_skel
    simp only [k0_part114_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part115_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.KernelFrame

end
-- ==== Proof.KernelFrame.RunB.lean ====
/- The kernel's body at a later grid point, nothing stated of what it leaves in its results. -/
module

public import proofs.«01_k».proof.Proof.KernelFrame.RunA

@[expose] public section

-- membership in a rectangle of production extents (`View.cover_of_tiled`): the elaborator's structural look
-- recurses once per coordinate of the long axes
set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 10268000 in
/-- The body's triple IN CASE B (`scf.if` 0 not taken: points 1, 2, … 15: 15 of 16): on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S116x64 .f32) (harg1 : arg1.IsWhole) (arg2 : Memref sig .tc .vmem S384x14848 .bf16) (harg2 : arg2.IsWhole) (arg3 : Memref sig .tc .vmem S14848x512 .fp8e4m3) (harg3 : arg3.IsWhole) (arg4 : Memref sig .tc .vmem S14848x16 .bf16) (harg4 : arg4.IsWhole) (arg5 : Memref sig .tc .vmem S16x512 .bf16) (harg5 : arg5.IsWhole) (arg6 : Memref sig .tc .vmem S384x512 .bf16) (harg6 : arg6.IsWhole) (arg7 : Memref sig .tc .vmem S384x14848 .fp8e4m3) (harg7 : arg7.IsWhole) (arg8 : Memref sig .tc .vmem S384x128 .f32) (harg8 : arg8.IsWhole) (arg9 : Memref sig .tc .vmem S384x14848 .bf16) (harg9 : arg9.IsWhole) (arg10 : Memref sig .tc .vmem S384x16 .bf16) (harg10 : arg10.IsWhole) (hc0 : ¬cond0_0 i)
    (x0 : Vec F S116x64 .f32) (x1 : Vec F S384x14848 .bf16) (x2 : Vec F S14848x512 .fp8e4m3) (x3 : Vec F S14848x16 .bf16) (x4 : Vec F S16x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_fp8_linear_lora i arg1 harg1 arg2 harg2 arg3 harg3 arg4 harg4 arg5 harg5 arg6 harg6 arg7 harg7 arg8 harg8 arg9 harg9 arg10 harg10) K := by
    intro E K
    simp only [cc0_fp8_linear_lora_eq_skeleton]; unfold cc0_fp8_linear_lora_skel
    simp only [k0_part114_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part115_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.KernelFrame

end
-- ==== Proof.KernelFrame.lean ====
/- The frame of the kernel at its own number formats: it terminates, its arguments end unchanged, every semaphore counter is zero again. Nothing is stated of its results here. -/
module

public import proofs.«01_k».proof.Proof.KernelFrame.RunB
public import Idealize.ShloMosaic.Lib.Claim

@[expose] public section

-- membership in a rectangle of production extents (`View.cover_of_tiled`): the elaborator's structural look
-- recurses once per coordinate of the long axes
set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val % 16 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.KernelFrame.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelFrame

end
-- ==== Proof.Exponent.lean ====
/- The kernel's search for an exponent field, read over the extended reals: of the number `p` it finds the field `k` of the
   power of two at or below `p`; the powers of two the kernel builds out of it are those the reference takes by logarithm,
   floor and exponential. -/
module

public import Idealize.ShloMosaic.Lib.Pointwise

@[expose] public section

noncomputable section

namespace Cert.Fp8

open Idealize.ShloMosaic

/-- The number whose pattern holds the exponent field `k` and no fraction: zero, a power of two, or infinity. -/
def pow2 (k : ℕ) : EReal := if k = 0 then 0 else if k < 255 then (((2 : ℝ) ^ ((k : ℤ) - 127) : ℝ) : EReal) else ⊤

/-- The pattern with exponent field `k` has no sign, the field `k` and no fraction. -/
theorem field_bits : ∀ k : Fin 256,
    (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

/-- The number the pattern with exponent field `k` stands for. -/
theorem ofBits_field (k : ℕ) (hk : k < 256) : Ideal.ofBits .f32 (IntOp.shli .vector (BitVec.ofNat 32 k) 23#32) = pow2 k := by
  obtain ⟨h1, h2, h3⟩ := field_bits ⟨k, hk⟩
  simp only at h1 h2 h3
  show Ideal.ieee 8 23 _ = _
  unfold Ideal.ieee pow2
  simp only [h1, h2, h3]
  by_cases h255 : k = 255
  · subst h255; simp
  · by_cases h0 : k = 0
    · subst h0; simp
    · have hlt : k < 255 := by omega
      simp only [h0, h255, hlt, if_true, if_false, show ¬ (k = 2 ^ 8 - 1) by omega]
      refine congrArg _ ?_
      rw [show ((k : ℤ) - (2 ^ (8 - 1) - 1) - ((23 : ℕ) : ℤ)) = (k : ℤ) - 127 + (-23) by norm_num; ring, zpow_add₀ two_ne_zero]
      generalize ((2 : ℝ) ^ ((k : ℤ) - 127)) = q
      norm_num
      ring

/-- One step of the search: `b` is added to the field `e` unless the number with the field `e + b` exceeds `p`. -/
def step (p : EReal) (e b : BitVec 32) : BitVec 32 :=
  Scalar.select (Ideal.cmp .olt p (Ideal.ofBits .f32 (IntOp.shli .vector (IntOp.addi e b) 23#32))) e (IntOp.addi e b)

/-- The exponent field the search finds for `p`. -/
def expField (p : EReal) : BitVec 32 :=
  step p (step p (step p (step p (step p (step p (step p (step p 0#32 128#32) 64#32) 32#32) 16#32) 8#32) 4#32) 2#32) 1#32

/-- A step halves the interval that `p` is known to lie in. -/
theorem step_spec (p : EReal) (e b : ℕ) (hb : 0 < b) (h : e + 2 * b ≤ 256) (h1 : pow2 e ≤ p) (h2 : p < pow2 (e + 2 * b)) :
    ∃ e' : ℕ, step p (BitVec.ofNat 32 e) (BitVec.ofNat 32 b) = BitVec.ofNat 32 e' ∧ e' + b ≤ 256 ∧ pow2 e' ≤ p ∧ p < pow2 (e' + b) := by
  have ha : IntOp.addi (BitVec.ofNat 32 e) (BitVec.ofNat 32 b) = BitVec.ofNat 32 (e + b) := by
    show BitVec.ofNat 32 e + BitVec.ofNat 32 b = _
    rw [BitVec.ofNat_add]
  unfold step
  rw [ha, ofBits_field (e + b) (by omega)]
  by_cases hc : p < pow2 (e + b)
  · refine ⟨e, ?_, by omega, h1, hc⟩
    simp [Ideal.cmp, hc, Scalar.select]
  · refine ⟨e + b, ?_, by omega, not_lt.mp hc, by rwa [show e + b + b = e + 2 * b by omega]⟩
    simp [Ideal.cmp, hc, Scalar.select]

/-- The search finds the field of the power of two at or below `p` (the field zero when `p` is below all of them). -/
theorem expField_spec (p : EReal) (h0 : 0 ≤ p) (ht : p < ⊤) :
    ∃ k : ℕ, expField p = BitVec.ofNat 32 k ∧ k < 256 ∧ pow2 k ≤ p ∧ p < pow2 (k + 1) := by
  obtain ⟨a, ea, _, la, ua⟩ := step_spec p 0 128 (by norm_num) (by norm_num) (by simpa [pow2] using h0) (by simpa [pow2] using ht)
  obtain ⟨b, eb, _, lb, ub⟩ := step_spec p a 64 (by norm_num) (by omega) la ua
  obtain ⟨c, ec, _, lc, uc⟩ := step_spec p b 32 (by norm_num) (by omega) lb ub
  obtain ⟨d, ed, _, ld, ud⟩ := step_spec p c 16 (by norm_num) (by omega) lc uc
  obtain ⟨e, ee, _, le, ue⟩ := step_spec p d 8 (by norm_num) (by omega) ld ud
  obtain ⟨f, ef, _, lf, uf⟩ := step_spec p e 4 (by norm_num) (by omega) le ue
  obtain ⟨g, eg, _, lg, ug⟩ := step_spec p f 2 (by norm_num) (by omega) lf uf
  obtain ⟨k, ek, hk, lk, uk⟩ := step_spec p g 1 (by norm_num) (by omega) lg ug
  refine ⟨k, ?_, by omega, lk, uk⟩
  unfold expField
  rw [show (0#32 : BitVec 32) = BitVec.ofNat 32 0 from rfl, ea, eb, ec, ed, ee, ef, eg, ek]

/-- The exponent the kernel takes: zero where the field is zero, else the field less 126. -/
def expOf (p : EReal) : BitVec 32 :=
  Scalar.select (IntOp.cmpi .eq (expField p) 0#32) 0#32 (IntOp.subi (expField p) 126#32)

/-- The scale the kernel builds. -/
def scaleOf (p : EReal) : EReal := Ideal.ofBits .f32 (IntOp.shli .vector (IntOp.addi (expOf p) 127#32) 23#32)

/-- The inverse of the scale the kernel builds. -/
def invOf (p : EReal) : EReal := Ideal.ofBits .f32 (IntOp.shli .vector (IntOp.subi 127#32 (expOf p)) 23#32)

/-- The exponent the reference takes: zero below the least normal number, else the floor of the binary logarithm plus one. -/
def refExp (p : EReal) : EReal :=
  Scalar.select (Ideal.cmp .olt p (Ideal.ofBits .f32 0x00800000#32)) (0 : EReal)
    (Ideal.liftRound Int.floor (Ideal.div (Ideal.log p) (Ideal.log (Ideal.ofBits .f32 0x40000000#32))) + 1)

/-- The least normal number. -/
theorem ofBits_minNormal : Ideal.ofBits .f32 0x00800000#32 = pow2 1 := ofBits_field 1 (by norm_num)

/-- The number two. -/
theorem ofBits_two : Ideal.ofBits .f32 0x40000000#32 = ((2 : ℝ) : EReal) := by
  refine (ofBits_field 128 (by norm_num)).trans ?_
  simp [pow2]

/-- The floor of the binary logarithm of a number between two neighbouring powers of two. -/
theorem floor_log (r : ℝ) (n : ℤ) (h1 : (2 : ℝ) ^ n ≤ r) (h2 : r < (2 : ℝ) ^ (n + 1)) : ⌊Real.log r * (Real.log 2)⁻¹⌋ = n := by
  have hr : 0 < r := lt_of_lt_of_le (zpow_pos two_pos n) h1
  have hl : 0 < Real.log 2 := Real.log_pos one_lt_two
  rw [← div_eq_mul_inv, Int.floor_eq_iff]
  constructor
  · rw [le_div_iff₀ hl, ← Real.log_zpow]; exact Real.log_le_log (zpow_pos two_pos n) h1
  · rw [div_lt_iff₀ hl]
    have : ((n : ℝ) + 1) * Real.log 2 = Real.log ((2 : ℝ) ^ (n + 1)) := by rw [Real.log_zpow]; push_cast; ring
    rw [this]; exact Real.log_lt_log hr h2

/-- The exponential of an integer. -/
theorem exp2_int (n : ℤ) : Ideal.exp2 (((n : ℝ) : ℝ) : EReal) = (((2 : ℝ) ^ n : ℝ) : EReal) := by
  show ((Real.rpow 2 (n : ℝ) : ℝ) : EReal) = _
  exact congrArg _ (Real.rpow_intCast 2 n)

/-- For `0 ≤ p < 2^126` both sides take the same exponent `n`; the kernel's scale is `2^n` and its inverse `2^(-n)`. -/
theorem exponents (p : EReal) (h0 : 0 ≤ p) (hp : p < (((2 : ℝ) ^ (126 : ℤ) : ℝ) : EReal)) :
    ∃ n : ℤ, refExp p = (((n : ℝ) : ℝ) : EReal) ∧ scaleOf p = (((2 : ℝ) ^ n : ℝ) : EReal) ∧ invOf p = (((2 : ℝ) ^ (-n) : ℝ) : EReal) := by
  obtain ⟨k, ek, hk, lk, uk⟩ := expField_spec p h0 (lt_of_lt_of_le hp le_top)
  have hk252 : k ≤ 252 := by
    by_contra hcon
    have hle : (((2 : ℝ) ^ (126 : ℤ) : ℝ) : EReal) ≤ pow2 k := by
      unfold pow2
      rw [if_neg (by omega)]
      by_cases h255 : k < 255
      · rw [if_pos h255, EReal.coe_le_coe_iff]
        exact zpow_le_zpow_right₀ one_le_two (by omega)
      · rw [if_neg h255]; exact le_top
    exact absurd (lt_of_le_of_lt (hle.trans lk) hp) (lt_irrefl _)
  by_cases hz : k = 0
  · subst hz
    have he : expOf p = BitVec.ofNat 32 0 := by unfold expOf; rw [ek]; decide
    refine ⟨0, ?_, ?_, ?_⟩
    · unfold refExp; rw [ofBits_minNormal]; simp [Ideal.cmp, Scalar.select, uk]
    · unfold scaleOf; rw [he]
      refine (ofBits_field 127 (by norm_num)).trans ?_
      simp [pow2]
    · unfold invOf; rw [he]
      refine (ofBits_field 127 (by norm_num)).trans ?_
      simp [pow2]
  · have hcmp : ∀ k : Fin 253, k.val ≠ 0 →
        Scalar.select (IntOp.cmpi .eq (BitVec.ofNat 32 k.val) 0#32) 0#32 (IntOp.subi (BitVec.ofNat 32 k.val) 126#32) = BitVec.ofNat 32 k.val - 126#32
        ∧ IntOp.addi (BitVec.ofNat 32 k.val - 126#32) 127#32 = BitVec.ofNat 32 (k.val + 1)
        ∧ IntOp.subi 127#32 (BitVec.ofNat 32 k.val - 126#32) = BitVec.ofNat 32 (253 - k.val) := by decide +kernel
    obtain ⟨c1, c2, c3⟩ := hcmp ⟨k, by omega⟩ hz
    have he : expOf p = BitVec.ofNat 32 k - 126#32 := by unfold expOf; rw [ek]; exact c1
    refine ⟨(k : ℤ) - 126, ?_, ?_, ?_⟩
    · have hge : ¬ p < pow2 1 := by
        refine not_lt.mpr (le_trans ?_ lk)
        unfold pow2
        rw [if_neg one_ne_zero, if_pos (by norm_num), if_neg hz, if_pos (by omega), EReal.coe_le_coe_iff]
        exact zpow_le_zpow_right₀ one_le_two (by omega)
      have hlk : (((2 : ℝ) ^ ((k : ℤ) - 127) : ℝ) : EReal) ≤ p := by simpa [pow2, hz, show k < 255 by omega] using lk
      have huk : p < (((2 : ℝ) ^ ((k : ℤ) - 127 + 1) : ℝ) : EReal) := by
        have := uk; unfold pow2 at this
        rw [if_neg (by omega), if_pos (by omega)] at this
        rwa [show (k : ℤ) - 127 + 1 = ((k + 1 : ℕ) : ℤ) - 127 by push_cast; ring]
      unfold refExp
      rw [ofBits_minNormal, ofBits_two]
      induction p using EReal.rec with
      | bot => exact absurd h0 (by simp)
      | top => exact absurd hp (by simp)
      | coe r =>
        rw [EReal.coe_le_coe_iff] at hlk
        rw [EReal.coe_lt_coe_iff] at huk
        have hr : 0 < r := lt_of_lt_of_le (zpow_pos two_pos _) hlk
        have hl : Real.log 2 ≠ 0 := (Real.log_pos one_lt_two).ne'
        have hlog : Ideal.log ((r : ℝ) : EReal) = ((Real.log r : ℝ) : EReal) := if_neg (not_le.mpr hr)
        have hlog2 : Ideal.log ((2 : ℝ) : EReal) = ((Real.log 2 : ℝ) : EReal) := if_neg (not_le.mpr two_pos)
        rw [hlog, hlog2]
        unfold Ideal.div
        rw [if_neg (by exact_mod_cast hl), ← EReal.coe_inv, ← EReal.coe_mul]
        show Scalar.select _ _ (((⌊Real.log r * (Real.log 2)⁻¹⌋ : ℝ) : EReal) + 1) = _
        rw [floor_log r _ hlk huk]
        simp only [Ideal.cmp, hge, decide_false]
        show (((((k : ℤ) - 127 : ℤ) : ℝ) : ℝ) : EReal) + ((1 : ℝ) : EReal) = _
        rw [← EReal.coe_add]
        congr 1; push_cast; ring
    · unfold scaleOf; rw [he, c2, ofBits_field _ (by omega)]
      unfold pow2
      rw [if_neg (by omega), if_pos (by omega)]
      congr 2; push_cast; ring
    · unfold invOf; rw [he, c3, ofBits_field _ (by omega)]
      unfold pow2
      rw [if_neg (by omega), if_pos (by omega)]
      congr 2; push_cast [show k ≤ 253 by omega]; ring

/-- The kernel's scale is the reference's. -/
theorem scaleOf_eq (p : EReal) (h0 : 0 ≤ p) (hp : p < (((2 : ℝ) ^ (126 : ℤ) : ℝ) : EReal)) : scaleOf p = Ideal.exp2 (refExp p) := by
  obtain ⟨n, h1, h2, _⟩ := exponents p h0 hp
  rw [h1, h2, exp2_int]

/-- The kernel's inverse scale is the reference's. -/
theorem invOf_eq (p : EReal) (h0 : 0 ≤ p) (hp : p < (((2 : ℝ) ^ (126 : ℤ) : ℝ) : EReal)) : invOf p = Ideal.exp2 (0 - refExp p) := by
  obtain ⟨n, h1, _, h3⟩ := exponents p h0 hp
  rw [h1, h3, show (0 : EReal) - ((n : ℝ) : EReal) = (((-n : ℤ) : ℝ) : EReal) by rw [zero_sub]; push_cast; rfl, exp2_int]

end Cert.Fp8

end
-- ==== Proof.GroupValue.lean ====
/- What the kernel computes of one group of 128 activations, element by element over the extended reals: the codes, the
   dequantised activations and the scales. -/
module

public import proofs.«01_k».proof.Proof.Trip
public import proofs.«01_k».proof.Proof.Exponent
public import Idealize.ShloMosaic.Lib.Pointwise
public import Idealize.ShloMosaic.Lib.Pipeline.Value

@[expose] public section

noncomputable section

namespace Cert.Fp8

open Idealize.ShloMosaic
open Cert.KernelIdeal Cert.KernelIdeal.Gen

variable (v : Vec Ideal S384x128 .bf16)

/-- The largest magnitude of row `r` of a group, times the constant nearest 1/448. -/
def rowBound (r : Fin 384) : EReal :=
  (Finset.univ : Finset (Fin 128)).fold max (Ideal.ofBits .f32 0xFF800000#32)
    (fun l => max (v (ix2 r l)) (-(v (ix2 r l)))) * Ideal.ofBits .f32 0x3B124925#32

/-- The kernel's bound of a row. -/
theorem pay3_apply (r : Fin 384) : k0_pay3 v (ix2 r 0) = rowBound v r := by
  have h : k0_pay3 v (ix2 r 0) = (Finset.univ : Finset (Fin 128)).fold max (Ideal.ofBits .f32 0xFF800000#32)
      (fun l => FloatOps.absf (F := Ideal) (φ := .f32) (v (ix2 r l))) * Ideal.ofBits .f32 0x3B124925#32 := by
    pointwise [k0_pay3, k0_pay2]
  exact h

/-- One step of the search, on a column of bounds. -/
def stepV (P : FVec Ideal S384x1 .f32) (b : BitVec 32) (E : IVec S384x1 32) : IVec S384x1 32 :=
  select (cmpf .olt P (bitcastToFloat .f32 (shli (addi E (broadcast S384x1 b)) (broadcast S384x1 23#32)))) E (addi E (broadcast S384x1 b))

theorem stepV_apply (P : FVec Ideal S384x1 .f32) (b : BitVec 32) (E : IVec S384x1 32) (j : S384x1.Idx) : stepV P b E j = step (P j) (E j) b := rfl

/-- The search's first three steps. -/
theorem pay4_eq : k0_pay4 v = stepV (k0_pay3 v) 32#32 (stepV (k0_pay3 v) 64#32 (stepV (k0_pay3 v) 128#32 (broadcast S384x1 0#32))) := rfl

/-- The search's last five steps, from the field `E` so far. -/
theorem pay6_eq (P : FVec Ideal S384x1 .f32) (E : IVec S384x1 32) :
    k0_pay6 P E (shli (addi E (broadcast S384x1 16#32)) (broadcast S384x1 23#32))
      = stepV P 1#32 (stepV P 2#32 (stepV P 4#32 (stepV P 8#32 (stepV P 16#32 E)))) := rfl

/-- The kernel's search finds the exponent field of the bound. -/
theorem pay6_apply (j : S384x1.Idx) : k0_pay6 (k0_pay3 v) (k0_pay4 v) (k0_pay5 v) j = expField (k0_pay3 v j) := by
  have h : k0_pay5 v = shli (addi (k0_pay4 v) (broadcast S384x1 16#32)) (broadcast S384x1 23#32) := rfl
  rw [h, pay6_eq, pay4_eq]
  simp only [stepV_apply]
  rfl

/-- The kernel's exponent. -/
theorem pay10_apply (j : S384x1.Idx) :
    k0_pay10 (k0_pay7 (k0_pay3 v) (k0_pay4 v) (k0_pay5 v)) (k0_pay8 (k0_pay3 v) (k0_pay4 v) (k0_pay5 v)) j = expOf (k0_pay3 v j) := by
  unfold k0_pay10 k0_pay7 k0_pay8 expOf
  rw [← pay6_apply]
  generalize k0_pay6 (k0_pay3 v) (k0_pay4 v) (k0_pay5 v) = P
  rfl

/-- The kernel's scale. -/
theorem pay11_apply (j : S384x1.Idx) :
    k0_pay11 (F := Ideal) (k0_pay7 (k0_pay3 v) (k0_pay4 v) (k0_pay5 v)) (k0_pay8 (k0_pay3 v) (k0_pay4 v) (k0_pay5 v)) j = scaleOf (k0_pay3 v j) := by
  unfold k0_pay11 scaleOf
  rw [← pay10_apply]
  generalize k0_pay10 (k0_pay7 (k0_pay3 v) (k0_pay4 v) (k0_pay5 v)) (k0_pay8 (k0_pay3 v) (k0_pay4 v) (k0_pay5 v)) = P
  rfl

/-- A column vector spread over the lanes, element by element. -/
theorem spread_at {α : Type} (u : S384x1.Idx → α) (r : Fin 384) (l : Fin 128) :
    broadcastTo S384x128 u broadcasts_S384x1_S384x128 (ix2 r l) = u (ix2 r 0) :=
  broadcastTo_apply _ _ _ (ix2 r 0) (fun a => by
    match a with
    | ⟨0, _⟩ => rfl
    | ⟨1, _⟩ => rfl)

/-- The clamped product of a vector and a spread column, element by element. -/
theorem clamp_at (u : FVec Ideal S384x128 .bf16) (w : FVec Ideal S384x128 .f32) (h : FTy.bits .bf16 < FTy.bits .f32)
    (h' : FTy.bits .fp8e4m3 < FTy.bits .f32) (j : S384x128.Idx) :
    truncf .fp8e4m3 (minimumf (broadcast S384x128 (Scalar.ofBits .f32 0x43E00000#32))
        (maximumf (broadcast S384x128 (Scalar.ofBits .f32 0xC3E00000#32)) (mulf (extf .f32 u h) w))) h' j
      = min (Ideal.ofBits .f32 0x43E00000#32) (max (Ideal.ofBits .f32 0xC3E00000#32) (u j * w j)) := rfl

/-- The inverse scale, element by element. -/
theorem inv_at (P : IVec S384x1 32) (j : S384x1.Idx) :
    bitcastToFloat (F := Ideal) .f32 (shli (subi (broadcast S384x1 127#32) P) (broadcast S384x1 23#32)) j
      = Ideal.ofBits .f32 (IntOp.shli .vector (IntOp.subi 127#32 (P j)) 23#32) := rfl

/-- The codes of a group. -/
theorem codesOf_apply (r : Fin 384) (l : Fin 128) : codesOf v (ix2 r l)
    = min (Ideal.ofBits .f32 0x43E00000#32) (max (Ideal.ofBits .f32 0xC3E00000#32) (v (ix2 r l) * invOf (rowBound v r))) := by
  unfold codesOf k0_pay12
  refine (clamp_at _ _ _ _ _).trans ?_
  rw [spread_at, inv_at, pay10_apply, pay3_apply]
  unfold k0_pay2
  rw [shapeCast_self]
  rfl

/-- A product of vectors, element by element. -/
theorem mulf_at {S : Shape} {φ : FTy} (u w : FVec Ideal S φ) (j : S.Idx) : mulf u w j = u j * w j := rfl

/-- A wider format holds the same numbers. -/
theorem extf_at {S : Shape} {φ ψ : FTy} (u : FVec Ideal S φ) (h : φ.bits < ψ.bits) (j : S.Idx) : extf ψ u h j = u j := rfl

/-- A rounding leaves an extended real as it is. -/
theorem truncf_at {S : Shape} {φ ψ : FTy} (u : FVec Ideal S φ) (h : ψ.bits < φ.bits) (j : S.Idx) : truncf ψ u h j = u j := rfl

/-- The dequantised activations of a group. -/
theorem deqOf_apply (r : Fin 384) (l : Fin 128) : deqOf v (ix2 r l) = codesOf v (ix2 r l) * scaleOf (rowBound v r) := by
  unfold deqOf k0_pay13
  rw [shapeCast_self]
  refine (mulf_at _ _ _).trans ?_
  rw [spread_at, truncf_at, pay11_apply, pay3_apply, extf_at]
  rfl

/-- The lanes of scales once a lane holds a group's. -/
theorem scalesOf_apply (b : BitVec 32) (s : Vec Ideal S384x128 .f32) (r : Fin 384) (l : Fin 128) : scalesOf b v s (ix2 r l)
    = if BitVec.ofNat 32 l.val = b then scaleOf (rowBound v r) else s (ix2 r l) := by
  have h : ∀ p q, k0_pay14 b p q s (ix2 r l)
      = Scalar.select (IntOp.cmpi .eq (BitVec.ofNat 32 l.val) b) (k0_pay11 (F := Ideal) p q (ix2 r 0)) (s (ix2 r l)) := by
    intro p q
    pointwise [k0_pay14]
  unfold scalesOf
  rw [h, pay11_apply, pay3_apply]
  by_cases hb : BitVec.ofNat 32 l.val = b
  · simp [Scalar.select, IntOp.cmpi, hb]
  · have hf : (BitVec.ofNat 32 l.val == b) = false := by simpa using hb
    simp [Scalar.select, IntOp.cmpi, hb, hf]

end Cert.Fp8

end
-- ==== Proof.RefRun.lean ====
/- What the reference's run leaves: each result's array as a function of the arguments, and the arguments unchanged. -/
module

public import proofs.«01_k».proof.Proof.Gen.ReferenceIdeal.Frame
public import Idealize.ShloMosaic.Lib.Pipeline.Value

@[expose] public section

noncomputable section

namespace Cert.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S1x384x8192.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S1x384x14848.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S1x384x116.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S1x384x14848.Idx) : ((cfg0.win 0).blk t).view.emb j = j := by
  obtain ⟨e0, e1, e2⟩ := idx_zero0 t
  funext a; apply Fin.ext
  match a with
  | ⟨0, _⟩ => show win0_0.index t (0 : Fin 3) * 1 + 1 * (j 0).val = (j 0).val; omega
  | ⟨1, _⟩ => show win0_0.index t (1 : Fin 3) * 384 + 1 * (j 1).val = (j 1).val; omega
  | ⟨2, _⟩ => show win0_0.index t (2 : Fin 3) * 14848 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S14848x8192.Idx) : ((cfg0.win 1).blk t).view.emb j = j := by
  obtain ⟨e0, e1⟩ := idx_zero1 t
  funext a; apply Fin.ext
  match a with
  | ⟨0, _⟩ => show win0_1.index t (0 : Fin 2) * 14848 + 1 * (j 0).val = (j 0).val; omega
  | ⟨1, _⟩ => show win0_1.index t (1 : Fin 2) * 8192 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S116x64.Idx) : ((cfg0.win 2).blk t).view.emb j = j := by
  obtain ⟨e0, e1⟩ := idx_zero2 t
  funext a; apply Fin.ext
  match a with
  | ⟨0, _⟩ => show win0_2.index t (0 : Fin 2) * 116 + 1 * (j 0).val = (j 0).val; omega
  | ⟨1, _⟩ => show win0_2.index t (1 : Fin 2) * 64 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S14848x16.Idx) : ((cfg0.win 3).blk t).view.emb j = j := by
  obtain ⟨e0, e1⟩ := idx_zero3 t
  funext a; apply Fin.ext
  match a with
  | ⟨0, _⟩ => show win0_3.index t (0 : Fin 2) * 14848 + 1 * (j 0).val = (j 0).val; omega
  | ⟨1, _⟩ => show win0_3.index t (1 : Fin 2) * 16 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S16x8192.Idx) : ((cfg0.win 4).blk t).view.emb j = j := by
  obtain ⟨e0, e1⟩ := idx_zero4 t
  funext a; apply Fin.ext
  match a with
  | ⟨0, _⟩ => show win0_4.index t (0 : Fin 2) * 16 + 1 * (j 0).val = (j 0).val; omega
  | ⟨1, _⟩ => show win0_4.index t (1 : Fin 2) * 8192 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S1x384x8192.Idx) : ((cfg0.win 5).blk t).view.emb j = j := by
  obtain ⟨e0, e1, e2⟩ := idx_zero5 t
  funext a; apply Fin.ext
  match a with
  | ⟨0, _⟩ => show win0_5.index t (0 : Fin 3) * 1 + 1 * (j 0).val = (j 0).val; omega
  | ⟨1, _⟩ => show win0_5.index t (1 : Fin 3) * 384 + 1 * (j 1).val = (j 1).val; omega
  | ⟨2, _⟩ => show win0_5.index t (2 : Fin 3) * 8192 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S1x384x14848.Idx) : ((cfg0.win 6).blk t).view.emb j = j := by
  obtain ⟨e0, e1, e2⟩ := idx_zero6 t
  funext a; apply Fin.ext
  match a with
  | ⟨0, _⟩ => show win0_6.index t (0 : Fin 3) * 1 + 1 * (j 0).val = (j 0).val; omega
  | ⟨1, _⟩ => show win0_6.index t (1 : Fin 3) * 384 + 1 * (j 1).val = (j 1).val; omega
  | ⟨2, _⟩ => show win0_6.index t (2 : Fin 3) * 14848 + 1 * (j 2).val = (j 2).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S1x384x116.Idx) : ((cfg0.win 7).blk t).view.emb j = j := by
  obtain ⟨e0, e1, e2⟩ := idx_zero7 t
  funext a; apply Fin.ext
  match a with
  | ⟨0, _⟩ => show win0_7.index t (0 : Fin 3) * 1 + 1 * (j 0).val = (j 0).val; omega
  | ⟨1, _⟩ => show win0_7.index t (1 : Fin 3) * 384 + 1 * (j 1).val = (j 1).val; omega
  | ⟨2, _⟩ => show win0_7.index t (2 : Fin 3) * 116 + 1 * (j 2).val = (j 2).val; omega

/-! ### Output window 5: the array after the run -/

/-- What the window's array ends holding: `out0_5` applied to the argument arrays in place of the input blocks . -/
abbrev G5 (a0 : Vec F S1x384x14848 .bf16) (a1 : Vec F S14848x8192 .fp8e4m3) (a2 : Vec F S116x64 .f32) (a3 : Vec F S14848x16 .bf16) (a4 : Vec F S16x8192 .bf16) : Vec F S1x384x8192 .bf16 :=
  k0_pay1 a0 (k0_pay6 a0) (k0_pay7 a1) (k0_pay8 a2) a3 a4

/-- A load of the whole of a block reads the block, and the one store through the whole rectangle leaves its payload. -/
theorem out5_eq (a0 : Vec F S1x384x14848 .bf16) (a1 : Vec F S14848x8192 .fp8e4m3) (a2 : Vec F S116x64 .f32) (a3 : Vec F S14848x16 .bf16) (a4 : Vec F S16x8192 .bf16) : out0_5 (F := F) a0 a1 a2 a3 a4 = G5 a0 a1 a2 a3 a4 := by
  unfold out0_5
  rw [View.canon_unit_zero hz5, View.ld_unit_zero (S := S1x384x14848) hz0 _ a0, View.ld_unit_zero (S := S14848x8192) hz1 _ a1, View.ld_unit_zero (S := S116x64) hz2 _ a2, View.ld_unit_zero (S := S14848x16) hz3 _ a3, View.ld_unit_zero (S := S16x8192) hz4 _ a4]

/-- Cutting the point's block out of `X` and reading `X` through the block's view give the same. -/
theorem cut5_eq (t : Fin cfg0.N) (X : Vec F S1x384x8192 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S1x384x8192.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks . -/
abbrev G6 (a0 : Vec F S1x384x14848 .bf16) (a1 : Vec F S14848x8192 .fp8e4m3) (a2 : Vec F S116x64 .f32) (a3 : Vec F S14848x16 .bf16) (a4 : Vec F S16x8192 .bf16) : Vec F S1x384x14848 .fp8e4m3 :=
  k0_pay5 a0

/-- A load of the whole of a block reads the block, and the one store through the whole rectangle leaves its payload. -/
theorem out6_eq (a0 : Vec F S1x384x14848 .bf16) (a1 : Vec F S14848x8192 .fp8e4m3) (a2 : Vec F S116x64 .f32) (a3 : Vec F S14848x16 .bf16) (a4 : Vec F S16x8192 .bf16) : out0_6 (F := F) a0 a1 a2 a3 a4 = G6 a0 a1 a2 a3 a4 := by
  unfold out0_6
  rw [View.canon_unit_zero hz6, View.ld_unit_zero (S := S1x384x14848) hz0 _ a0]

/-- Cutting the point's block out of `X` and reading `X` through the block's view give the same. -/
theorem cut6_eq (t : Fin cfg0.N) (X : Vec F S1x384x14848 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S1x384x14848.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks . -/
abbrev G7 (a0 : Vec F S1x384x14848 .bf16) (a1 : Vec F S14848x8192 .fp8e4m3) (a2 : Vec F S116x64 .f32) (a3 : Vec F S14848x16 .bf16) (a4 : Vec F S16x8192 .bf16) : Vec F S1x384x116 .f32 :=
  k0_pay4 a0

/-- A load of the whole of a block reads the block, and the one store through the whole rectangle leaves its payload. -/
theorem out7_eq (a0 : Vec F S1x384x14848 .bf16) (a1 : Vec F S14848x8192 .fp8e4m3) (a2 : Vec F S116x64 .f32) (a3 : Vec F S14848x16 .bf16) (a4 : Vec F S16x8192 .bf16) : out0_7 (F := F) a0 a1 a2 a3 a4 = G7 a0 a1 a2 a3 a4 := by
  unfold out0_7
  rw [View.canon_unit_zero hz7, View.ld_unit_zero (S := S1x384x14848) hz0 _ a0]

/-- Cutting the point's block out of `X` and reading `X` through the block's view give the same. -/
theorem cut7_eq (t : Fin cfg0.N) (X : Vec F S1x384x116 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S1x384x116.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      kept_main_arg0 m r h c,
      kept_main_arg1 m r h c,
      kept_main_arg2 m r h c,
      kept_main_arg3 m r h c,
      kept_main_arg4 m r h c⟩)
    (run_main m ρ)

end Cert.RefRun

end
-- ==== Proof.RefValue.lean ====
/- What the reference computes, element by element over the extended reals. -/
module

public import proofs.«01_k».proof.Proof.RefRun
public import proofs.«01_k».proof.Proof.Exponent
public import Idealize.ShloMosaic.Lib.Pointwise
public import Idealize.ShloMosaic.Lib.Pipeline.Value

@[expose] public section

noncomputable section

namespace Cert.Fp8.Ref

open Idealize.ShloMosaic
open Cert.ReferenceIdeal Cert.ReferenceIdeal.Gen

variable (x : Vec Ideal S1x384x14848 .bf16)

/-- The group a column lies in. -/
abbrev grp (k : Fin 14848) : Fin 116 := ⟨k.val / 128, by have := k.isLt; omega⟩

/-- The column `l` of group `g`. -/
abbrev col (g : Fin 116) (l : Fin 128) : Fin 14848 := ⟨128 * g.val + l.val, by have := g.isLt; have := l.isLt; omega⟩

/-- The largest magnitude of a group of 128 activations, times the constant nearest 1/448. -/
def bound (r : Fin 384) (g : Fin 116) : EReal :=
  (Finset.univ : Finset (Fin 128)).fold max (Ideal.ofBits .f32 0xFF800000#32)
    (fun l => max (x (ix3 0 r (col g l))) (-(x (ix3 0 r (col g l))))) * Ideal.ofBits .f32 0x3B124925#32

/-- The scale of a group. -/
def scale (r : Fin 384) (g : Fin 116) : EReal := Ideal.exp2 (refExp (bound x r g))

/-- The code of an activation: the activation over its group's scale, clamped to the range of the format. -/
def code (r : Fin 384) (k : Fin 14848) : EReal :=
  min (Ideal.ofBits .f32 0x43E00000#32) (max (Ideal.ofBits .f32 0xC3E00000#32)
    (x (ix3 0 r k) * Ideal.exp2 (0 - refExp (bound x r (grp k)))))

/-- The dequantised activation. -/
def deq (r : Fin 384) (k : Fin 14848) : EReal := code x r k * scale x r (grp k)

/-- The product of the dequantised activations and weights, plus twice the low-rank term. -/
def prod (w : Vec Ideal S14848x8192 .fp8e4m3) (s : Vec Ideal S116x64 .f32) (la : Vec Ideal S14848x16 .bf16) (lb : Vec Ideal S16x8192 .bf16)
    (r : Fin 384) (c : Fin 8192) : EReal :=
  (∑ k : Fin 14848, deq x r k * (w (ix2 k c) * s (ix2 (grp k) ⟨c.val / 128, by have := c.isLt; omega⟩)))
    + Ideal.ofBits .f32 0x40000000#32 * ∑ q : Fin 16, (∑ k : Fin 14848, x (ix3 0 r k) * la (ix2 k q)) * lb (ix2 q c)

/-- The activations by groups. -/
theorem pay2_apply (r : Fin 384) (g : Fin 116) (l : Fin 128) : k0_pay2 x (ix4 0 r g l) = x (ix3 0 r (col g l)) :=
  shapeCast_apply _ _ _ _ (by
    rw [Shape.rowMajor_val_three, Shape.rowMajor_val_four]
    show (0 * 384 + r.val) * 14848 + (128 * g.val + l.val) = ((0 * 384 + r.val) * 116 + g.val) * 128 + l.val
    omega)

/-- The largest magnitude of a group. -/
theorem amax_apply (r : Fin 384) (g : Fin 116) :
    multiReduction (F := Ideal) (φ := .f32) .maximumf [3] S1x384x116 (absf (k0_pay2 x)) 0xFF800000#32 reduces_S1x384x116x128_S1x384x116
        (.inl rfl) rfl (ix3 0 r g)
      = (Finset.univ : Finset (Fin 128)).fold max (Ideal.ofBits .f32 0xFF800000#32)
          (fun l => max (x (ix3 0 r (col g l))) (-(x (ix3 0 r (col g l))))) := by
  refine (Ideal.multiReduction_maximumf_single _ _ _ _ _ _).trans ?_
  refine congrArg (fun f => Finset.fold max (Ideal.ofBits .f32 0xFF800000#32) f (Finset.univ : Finset (Fin 128))) (funext fun l => ?_)
  have e : reduces_S1x384x116x128_S1x384x116.lift (ix3 0 r g) l = ix4 0 r g l := by
    funext a; apply Fin.ext
    match a with
    | ⟨0, _⟩ => rfl
    | ⟨1, _⟩ => rfl
    | ⟨2, _⟩ => rfl
    | ⟨3, _⟩ => rfl
  show max (k0_pay2 x _) (-(k0_pay2 x _)) = _
  rw [e]
  exact congrArg (fun v : EReal => max v (-v)) (pay2_apply x r g l)

/-- The exponential of a vector, element by element. -/
theorem exp2_at {S : Shape} (v : FVec Ideal S .f32) (j : S.Idx) : exp2 v j = Ideal.exp2 (v j) := rfl

/-- A constant vector, element by element. -/
theorem const_at {S : Shape} (b : BitVec 32) (j : S.Idx) : broadcast S (Scalar.ofBits (F := Ideal) .f32 b) j = Ideal.ofBits .f32 b := rfl

/-- A product of vectors, element by element. -/
theorem mulf_at {S : Shape} {φ : FTy} (u v : FVec Ideal S φ) (j : S.Idx) : mulf u v j = u j * v j := rfl

/-- A wider format holds the same numbers. -/
theorem extf_at {S : Shape} {φ ψ : FTy} (v : FVec Ideal S φ) (h : φ.bits < ψ.bits) (j : S.Idx) : extf ψ v h j = v j := rfl

/-- A rounding leaves an extended real as it is. -/
theorem truncf_at {S : Shape} {φ ψ : FTy} (v : FVec Ideal S φ) (h : ψ.bits < φ.bits) (j : S.Idx) : truncf ψ v h j = v j := rfl

/-- The clamped product, element by element. -/
theorem clamp_at {S : Shape} (u v : FVec Ideal S .f32) (h : FTy.bits .fp8e4m3 < FTy.bits .f32) (j : S.Idx) :
    truncf .fp8e4m3 (minimumf (broadcast S (Scalar.ofBits .f32 0x43E00000#32)) (maximumf (broadcast S (Scalar.ofBits .f32 0xC3E00000#32)) (mulf u v))) h j
      = min (Ideal.ofBits .f32 0x43E00000#32) (max (Ideal.ofBits .f32 0xC3E00000#32) (u j * v j)) := rfl

/-- The negated exponent's exponential, element by element. -/
theorem inv_at {S : Shape} (v : FVec Ideal S .f32) (j : S.Idx) :
    exp2 (subf (broadcast S (Scalar.ofBits .f32 0x00000000#32)) v) j = Ideal.exp2 (0 - v j) := by
  rw [← Ideal.ofBits_zero_f32]; rfl

/-- The reference's exponent, element by element. -/
theorem expo_at {S : Shape} (P : FVec Ideal S .f32) (j : S.Idx) :
    select (cmpf .olt P (broadcast S (Scalar.ofBits .f32 0x00800000#32))) (broadcast S (Scalar.ofBits (F := Ideal) .f32 0x00000000#32))
      (addf (floor (divf (log P) (log (broadcast S (Scalar.ofBits .f32 0x40000000#32))))) (broadcast S (Scalar.ofBits .f32 0x3F800000#32))) j
      = refExp (P j) := by
  have h1 : Ideal.ofBits .f32 0x3F800000#32 = 1 := Ideal.ofBits_one_f32
  have h0 : Ideal.ofBits .f32 0x00000000#32 = 0 := Ideal.ofBits_zero_f32
  unfold refExp
  rw [← h1, ← h0]
  rfl

/-- The exponent of a group. -/
theorem pay3_apply (r : Fin 384) (g : Fin 116) : k0_pay3 x (ix3 0 r g) = refExp (bound x r g) := by
  unfold k0_pay3
  refine (expo_at _ _).trans (congrArg refExp ?_)
  refine (mulf_at _ _ _).trans ?_
  unfold bound
  rw [amax_apply, const_at]

/-- The third result: the groups' scales. -/
theorem pay4_apply (r : Fin 384) (g : Fin 116) : k0_pay4 x (ix3 0 r g) = scale x r g := by
  unfold k0_pay4 scale
  rw [← pay3_apply]
  exact exp2_at _ _

/-- The second result: the codes. -/
theorem pay5_apply (r : Fin 384) (k : Fin 14848) : k0_pay5 x (ix3 0 r k) = code x r k := by
  have hk := k.isLt
  unfold k0_pay5
  refine (shapeCast_apply _ _ _ (ix4 0 r (grp k) ⟨k.val % 128, Nat.mod_lt _ (by decide)⟩) (by
    rw [Shape.rowMajor_val_three, Shape.rowMajor_val_four]
    show ((0 * 384 + r.val) * 116 + k.val / 128) * 128 + k.val % 128 = (0 * 384 + r.val) * 14848 + k.val
    omega)).trans ?_
  have hc : col (grp k) ⟨k.val % 128, Nat.mod_lt _ (by decide)⟩ = k := Fin.ext (by show 128 * (k.val / 128) + k.val % 128 = k.val; omega)
  have e2 := pay2_apply x r (grp k) ⟨k.val % 128, Nat.mod_lt _ (by decide)⟩
  rw [hc] at e2
  have e3 : broadcastTo S1x384x116x128 (shapeCast S1x384x116x1 (exp2 (subf (broadcast S1x384x116 (Scalar.ofBits .f32 0x00000000#32)) (k0_pay3 x)))
      shapeCasts_S1x384x116_S1x384x116x1) broadcasts_S1x384x116x1_S1x384x116x128 (ix4 0 r (grp k) ⟨k.val % 128, Nat.mod_lt _ (by decide)⟩)
      = Ideal.exp2 (0 - refExp (bound x r (grp k))) := by
    refine (broadcastTo_apply _ _ _ (ix4 0 r (grp k) 0) (fun a => by
      match a with
      | ⟨0, _⟩ => rfl
      | ⟨1, _⟩ => rfl
      | ⟨2, _⟩ => rfl
      | ⟨3, _⟩ => rfl)).trans ?_
    refine (shapeCast_apply _ _ _ (ix3 0 r (grp k)) (by
      rw [Shape.rowMajor_val_three, Shape.rowMajor_val_four]
      show (0 * 384 + r.val) * 116 + k.val / 128 = ((0 * 384 + r.val) * 116 + k.val / 128) * 1 + 0
      omega)).trans ?_
    refine (inv_at _ _).trans ?_
    rw [pay3_apply]
  refine (clamp_at _ _ _ _).trans ?_
  rw [e2, e3]
  rfl

/-- The dequantised activations. -/
theorem pay6_apply (r : Fin 384) (k : Fin 14848) : k0_pay6 x (ix3 0 r k) = deq x r k := by
  have hk := k.isLt
  unfold k0_pay6 deq
  refine (shapeCast_apply _ _ _ (ix4 0 r (grp k) ⟨k.val % 128, Nat.mod_lt _ (by decide)⟩) (by
    rw [Shape.rowMajor_val_three, Shape.rowMajor_val_four]
    show ((0 * 384 + r.val) * 116 + k.val / 128) * 128 + k.val % 128 = (0 * 384 + r.val) * 14848 + k.val
    omega)).trans ?_
  have e1 : shapeCast S1x384x116x128 (extf .bf16 (k0_pay5 x) bitsLt_fp8e4m3_bf16) shapeCasts_S1x384x14848_S1x384x116x128
      (ix4 0 r (grp k) ⟨k.val % 128, Nat.mod_lt _ (by decide)⟩) = code x r k :=
    (shapeCast_apply _ _ _ (ix3 0 r k) (by
      rw [Shape.rowMajor_val_three, Shape.rowMajor_val_four]
      show (0 * 384 + r.val) * 14848 + k.val = ((0 * 384 + r.val) * 116 + k.val / 128) * 128 + k.val % 128
      omega)).trans ((extf_at (k0_pay5 x) bitsLt_fp8e4m3_bf16 _).trans (pay5_apply x r k))
  have e2 : broadcastTo S1x384x116x128 (shapeCast S1x384x116x1 (truncf .bf16 (k0_pay4 x) bitsLt_bf16_f32) shapeCasts_S1x384x116_S1x384x116x1)
      broadcasts_S1x384x116x1_S1x384x116x128 (ix4 0 r (grp k) ⟨k.val % 128, Nat.mod_lt _ (by decide)⟩) = scale x r (grp k) := by
    refine (broadcastTo_apply _ _ _ (ix4 0 r (grp k) 0) (fun a => by
      match a with
      | ⟨0, _⟩ => rfl
      | ⟨1, _⟩ => rfl
      | ⟨2, _⟩ => rfl
      | ⟨3, _⟩ => rfl)).trans ?_
    refine (shapeCast_apply _ _ _ (ix3 0 r (grp k)) (by
      rw [Shape.rowMajor_val_three, Shape.rowMajor_val_four]
      show (0 * 384 + r.val) * 116 + k.val / 128 = ((0 * 384 + r.val) * 116 + k.val / 128) * 1 + 0
      omega)).trans ?_
    exact (truncf_at (k0_pay4 x) bitsLt_bf16_f32 _).trans (pay4_apply x r (grp k))
  refine (mulf_at _ _ _).trans ?_
  rw [e1, e2]

/-- The first result: the product. -/
theorem pay1_apply (w : Vec Ideal S14848x8192 .fp8e4m3) (s : Vec Ideal S116x64 .f32) (la : Vec Ideal S14848x16 .bf16) (lb : Vec Ideal S16x8192 .bf16)
    (r : Fin 384) (c : Fin 8192) :
    k0_pay1 x (k0_pay6 x) (k0_pay7 w) (k0_pay8 s) la lb (ix3 0 r c) = prod x w s la lb r c := by
  have h : ∀ xd : FVec Ideal S1x384x14848 .bf16, k0_pay1 x xd (k0_pay7 w) (k0_pay8 s) la lb (ix3 0 r c)
      = (∑ k : Fin 14848, xd (ix3 0 r k) * (w (ix2 k c) * s (ix2 (grp k) ⟨c.val / 128, by have := c.isLt; omega⟩)))
        + Ideal.ofBits .f32 0x40000000#32 * ∑ q : Fin 16, (∑ k : Fin 14848, x (ix3 0 r k) * la (ix2 k q)) * lb (ix2 q c) := by
    intro xd
    pointwise [k0_pay1, k0_pay7, k0_pay8]
  rw [h]
  unfold prod
  simp only [pay6_apply]

end Cert.Fp8.Ref

end
-- ==== Proof.Quant.lean ====
/- The kernel's codes, dequantised activations and scales are the reference's, for activations in range. -/
module

public import proofs.«01_k».proof.Proof.GroupValue
public import proofs.«01_k».proof.Proof.RefValue

@[expose] public section

noncomputable section

namespace Cert.Fp8

open Idealize.ShloMosaic
open Cert.KernelIdeal Cert.KernelIdeal.Gen

/-- Every activation's magnitude is at most the largest bfloat16 number. -/
def InRange (x : Vec Ideal S1x384x14848 .bf16) : Prop :=
  ∀ r k, max (x (ix3 0 r k)) (-(x (ix3 0 r k))) ≤ Ideal.ofBits .f32 0x7F7F0000#32

/-- The largest bfloat16 number. -/
theorem ofBits_max : Ideal.ofBits .f32 0x7F7F0000#32 = ((255 * (2 : ℝ) ^ (120 : ℕ) : ℝ) : EReal) := by
  have e : 2139029504 >>> 23 % 256 = 254 := by decide
  have s : ¬ BitVec.extractLsb' 31 1 2139029504#32 = 1#1 := by decide
  simp only [Ideal.ofBits, Ideal.ieee]
  norm_num [e, s]

/-- The constant nearest 1/448. -/
theorem ofBits_inv448 : Ideal.ofBits .f32 0x3B124925#32 = ((9586981 / (2 : ℝ) ^ (32 : ℕ) : ℝ) : EReal) := by
  have e : 991054117 >>> 23 % 256 = 118 := by decide
  have s : ¬ BitVec.extractLsb' 31 1 991054117#32 = 1#1 := by decide
  simp only [Ideal.ofBits, Ideal.ieee]
  norm_num [e, s]

/-- Minus infinity. -/
theorem ofBits_negInf : Ideal.ofBits .f32 0xFF800000#32 = (⊥ : EReal) := by
  simp [Ideal.ofBits, Ideal.ieee]

/-- A magnitude is not negative. -/
theorem abs_nonneg' (v : EReal) : 0 ≤ max v (-v) := by
  rcases le_total 0 v with h | h
  · exact le_max_of_le_left h
  · exact le_max_of_le_right (by simpa using h)

/-- The bound of a group is not negative. -/
theorem bound_nonneg (x : Vec Ideal S1x384x14848 .bf16) (r : Fin 384) (g : Fin 116) : 0 ≤ Ref.bound x r g := by
  unfold Ref.bound
  rw [ofBits_inv448]
  refine mul_nonneg ?_ (EReal.coe_nonneg.mpr (by positivity))
  exact (Finset.le_fold_max _).mpr (Or.inr ⟨0, Finset.mem_univ _, abs_nonneg' _⟩)

/-- The bound of a group in range is far below 2 ^ 126. -/
theorem bound_lt (x : Vec Ideal S1x384x14848 .bf16) (hx : InRange x) (r : Fin 384) (g : Fin 116) :
    Ref.bound x r g < (((2 : ℝ) ^ (126 : ℤ) : ℝ) : EReal) := by
  unfold Ref.bound
  rw [ofBits_inv448]
  have h : (Finset.univ : Finset (Fin 128)).fold max (Ideal.ofBits .f32 0xFF800000#32)
      (fun l => max (x (ix3 0 r (Ref.col g l))) (-(x (ix3 0 r (Ref.col g l))))) ≤ ((255 * (2 : ℝ) ^ (120 : ℕ) : ℝ) : EReal) := by
    refine (Finset.fold_max_le _).mpr ⟨?_, fun l _ => ?_⟩
    · rw [ofBits_negInf]; exact bot_le
    · rw [← ofBits_max]; exact hx r _
  refine lt_of_le_of_lt (mul_le_mul_of_nonneg_right h (EReal.coe_nonneg.mpr (by positivity))) ?_
  rw [← EReal.coe_mul]
  refine EReal.coe_lt_coe_iff.mpr ?_
  norm_num

/-- The kernel's activations: the argument without its leading axis. -/
def flat (x : Vec Ideal S1x384x14848 .bf16) : Vec Ideal S384x14848 .bf16 := fun j => x (ix3 0 (j 0) (j 1))

variable (x : Vec Ideal S1x384x14848 .bf16)

/-- The kernel bounds a row of a group by what the reference bounds the group by. -/
theorem rowBound_eq (r : Fin 384) (g : Fin 116) : rowBound (groupOf (flat x) g) r = Ref.bound x r g := rfl

/-- The kernel's scale of a group is the reference's. -/
theorem scale_eq (hx : InRange x) (r : Fin 384) (g : Fin 116) : scaleOf (rowBound (groupOf (flat x) g) r) = Ref.scale x r g := by
  rw [rowBound_eq, scaleOf_eq _ (bound_nonneg x r g) (bound_lt x hx r g)]
  rfl

/-- An activation read through its group. -/
theorem group_apply (r : Fin 384) (k : Fin 14848) :
    groupOf (flat x) (Ref.grp k) (ix2 r ⟨k.val % 128, Nat.mod_lt _ (by decide)⟩) = x (ix3 0 r k) := by
  have h : Ref.col (Ref.grp k) ⟨k.val % 128, Nat.mod_lt _ (by decide)⟩ = k := Fin.ext (by show 128 * (k.val / 128) + k.val % 128 = k.val; omega)
  show x (ix3 0 r (Ref.col (Ref.grp k) ⟨k.val % 128, _⟩)) = _
  rw [h]

/-- The kernel's codes are the reference's. -/
theorem codes_eq (hx : InRange x) (r : Fin 384) (k : Fin 14848) : codesV (flat x) (ix2 r k) = Ref.code x r k := by
  refine (codesOf_apply (groupOf (flat x) (Ref.grp k)) r ⟨k.val % 128, Nat.mod_lt _ (by decide)⟩).trans ?_
  rw [group_apply, rowBound_eq, invOf_eq _ (bound_nonneg x r _) (bound_lt x hx r _)]
  rfl

/-- The kernel's dequantised activations are the reference's. -/
theorem deq_eq (hx : InRange x) (r : Fin 384) (k : Fin 14848) : deqV (flat x) (ix2 r k) = Ref.deq x r k := by
  refine (deqOf_apply (groupOf (flat x) (Ref.grp k)) r ⟨k.val % 128, Nat.mod_lt _ (by decide)⟩).trans ?_
  rw [scale_eq x hx]
  exact congrArg (· * Ref.scale x r (Ref.grp k)) (codes_eq x hx r k)

/-- After `n` groups, the lane of an earlier group holds that group's scale. -/
theorem scalesN_apply (hx : InRange x) (r : Fin 384) (g : Fin 116) (n : ℕ) (hn : n ≤ 116) (hg : g.val < n) :
    scalesN (flat x) n (ix2 r ⟨g.val, by have := g.isLt; omega⟩) = Ref.scale x r g := by
  induction n with
  | zero => exact absurd hg (by omega)
  | succ n ih =>
    rw [scalesN, dif_pos (by omega : n < 116), scalesOf_apply]
    by_cases h : g.val = n
    · subst h
      rw [if_pos rfl]
      exact scale_eq x hx r g
    · rw [if_neg ?_]
      · exact ih (by omega) (by omega)
      · intro e
        have := congrArg BitVec.toNat e
        simp only [BitVec.toNat_ofNat] at this
        omega

end Cert.Fp8

end
-- ==== Proof.Product.lean ====
/- The tile of the product a grid point stores, element by element over the extended reals. -/
module

public import proofs.«01_k».proof.Proof.Block
public import Idealize.ShloMosaic.Lib.Pointwise
public import Idealize.ShloMosaic.Lib.Pipeline.Value

@[expose] public section

noncomputable section

namespace Cert.Fp8

open Idealize.ShloMosaic
open Cert.KernelIdeal Cert.KernelIdeal.Gen

section
variable (sc : Fin 116 → Fin 4 → Elt Ideal .f32) (wb : Fin 116 → Fin 4 → Vec Ideal S128x128 .fp8e4m3)
    (xs : Fin 7 → Vec Ideal S384x2048 .bf16) (xl : Vec Ideal S384x512 .bf16) (tt : Vec Ideal S384x16 .bf16) (lb : Vec Ideal S16x512 .bf16)

/-- The dequantised weight at row `k` and column `c` of a tile. -/
def weight (k : Fin 14848) (c : Fin 512) : EReal :=
  wb ⟨k.val / 128, by have := k.isLt; omega⟩ ⟨c.val / 128, by have := c.isLt; omega⟩
      (ix2 ⟨k.val % 128, Nat.mod_lt _ (by decide)⟩ ⟨c.val % 128, Nat.mod_lt _ (by decide)⟩)
    * sc ⟨k.val / 128, by have := k.isLt; omega⟩ ⟨c.val / 128, by have := c.isLt; omega⟩

/-- A block of weights, element by element. -/
theorem wBlock_apply (g : Fin 116) (r : Fin 4) (j : S128x128.Idx) : wBlock sc wb g r j = wb g r j * sc g r := rfl

/-- The 128 rows of a group, element by element. -/
theorem wGroup_apply (g : Fin 116) (a : Fin 128) (c : Fin 512) : wGroup sc wb g (ix2 a c)
    = wb g ⟨c.val / 128, by have := c.isLt; omega⟩ (ix2 a ⟨c.val % 128, Nat.mod_lt _ (by decide)⟩)
      * sc g ⟨c.val / 128, by have := c.isLt; omega⟩ := by
  have hc := c.isLt
  exact concatenate_ofFn_apply (t := S128x512) (s₁ := S128x128) 1 (fun n : Fin 4 => wBlock sc wb g n)
    concatenates_S128x128_S128x128_S128x128_S128x128_S128x512_d1 rfl 128 rfl (ix2 a c) ⟨c.val / 128, by omega⟩ rfl
    (ix2 a ⟨c.val % 128, Nat.mod_lt _ (by decide)⟩) rfl (fun b hb => by
      match b with
      | ⟨0, _⟩ => rfl
      | ⟨1, _⟩ => exact absurd rfl hb)

/-- A slice of 2048 rows, element by element. -/
theorem wSlice_apply (q : Fin 7) (a : Fin 2048) (c : Fin 512) : wSlice sc wb q (ix2 a c)
    = weight sc wb ⟨2048 * q.val + a.val, by have := q.isLt; have := a.isLt; omega⟩ c := by
  have hq := q.isLt; have ha := a.isLt
  have h : wSlice sc wb q (ix2 a c) = wGroup sc wb ⟨16 * q.val + a.val / 128, by omega⟩ (ix2 ⟨a.val % 128, Nat.mod_lt _ (by decide)⟩ c) :=
    concatenate_ofFn_apply (t := S2048x512) (s₁ := S128x512) 0 (fun n : Fin 16 => wGroup sc wb ⟨16 * q.val + n.val, by have := n.isLt; omega⟩)
      concatenates_S128x512_S128x512_S128x512_S128x512_S128x512_S128x512_S128x512_S128x512_S128x512_S128x512_S128x512_S128x512_S128x512_S128x512_S128x512_S128x512_S2048x512_d0
      rfl 128 rfl (ix2 a c) ⟨a.val / 128, by omega⟩ rfl (ix2 ⟨a.val % 128, Nat.mod_lt _ (by decide)⟩ c) rfl (fun b hb => by
        match b with
        | ⟨0, _⟩ => exact absurd rfl hb
        | ⟨1, _⟩ => rfl)
  rw [h, wGroup_apply]
  have e1 : (⟨16 * q.val + a.val / 128, by omega⟩ : Fin 116) = ⟨(2048 * q.val + a.val) / 128, by omega⟩ := Fin.ext (by show 16 * q.val + a.val / 128 = (2048 * q.val + a.val) / 128; omega)
  have e2 : (⟨a.val % 128, Nat.mod_lt _ (by decide)⟩ : Fin 128) = ⟨(2048 * q.val + a.val) % 128, Nat.mod_lt _ (by decide)⟩ := Fin.ext (by show a.val % 128 = (2048 * q.val + a.val) % 128; omega)
  rw [e1, e2]
  rfl

/-- The last 512 rows, element by element. -/
theorem wLast_apply (a : Fin 512) (c : Fin 512) : wLast sc wb (ix2 a c) = weight sc wb ⟨14336 + a.val, by have := a.isLt; omega⟩ c := by
  have ha := a.isLt
  have h : wLast sc wb (ix2 a c) = wGroup sc wb ⟨112 + a.val / 128, by omega⟩ (ix2 ⟨a.val % 128, Nat.mod_lt _ (by decide)⟩ c) :=
    concatenate_ofFn_apply (t := S512x512) (s₁ := S128x512) 0 (fun n : Fin 4 => wGroup sc wb ⟨112 + n.val, by have := n.isLt; omega⟩)
      concatenates_S128x512_S128x512_S128x512_S128x512_S512x512_d0
      rfl 128 rfl (ix2 a c) ⟨a.val / 128, by omega⟩ rfl (ix2 ⟨a.val % 128, Nat.mod_lt _ (by decide)⟩ c) rfl (fun b hb => by
        match b with
        | ⟨0, _⟩ => exact absurd rfl hb
        | ⟨1, _⟩ => rfl)
  rw [h, wGroup_apply]
  have e1 : (⟨112 + a.val / 128, by omega⟩ : Fin 116) = ⟨(14336 + a.val) / 128, by omega⟩ := Fin.ext (by show 112 + a.val / 128 = (14336 + a.val) / 128; omega)
  have e2 : (⟨a.val % 128, Nat.mod_lt _ (by decide)⟩ : Fin 128) = ⟨(14336 + a.val) % 128, Nat.mod_lt _ (by decide)⟩ := Fin.ext (by show a.val % 128 = (14336 + a.val) % 128; omega)
  rw [e1, e2]
  rfl

/-- A product over 2048 rows added to a sum, element by element. -/
theorem dot2048_apply (s : FVec Ideal S384x512 .f32) (u : FVec Ideal S384x2048 .bf16) (v : FVec Ideal S2048x512 .bf16) (r : Fin 384) (c : Fin 512) :
    addf s (matmul dot_S384x2048_S2048x512_S384x512_1_0_0_1_n_n none u v (constant S384x512 .f32 0x00000000#32)) (ix2 r c)
      = s (ix2 r c) + ∑ a : Fin 2048, u (ix2 r a) * v (ix2 a c) := by
  pointwise []

/-- A product over 512 rows added to a sum, element by element. -/
theorem dot512_apply (s : FVec Ideal S384x512 .f32) (u : FVec Ideal S384x512 .bf16) (v : FVec Ideal S512x512 .bf16) (r : Fin 384) (c : Fin 512) :
    truncf .bf16 (addf s (matmul dot_S384x512_S512x512_S384x512_1_0_0_1_n_n none u v (constant S384x512 .f32 0x00000000#32))) bitsLt_bf16_f32 (ix2 r c)
      = s (ix2 r c) + ∑ a : Fin 512, u (ix2 r a) * v (ix2 a c) := by
  pointwise []

/-- A sum with one slice added, element by element. -/
theorem addSlice_apply (s : FVec Ideal S384x512 .f32) (q : Fin 7) (r : Fin 384) (c : Fin 512) : addSlice sc wb xs s q (ix2 r c)
    = s (ix2 r c) + ∑ a : Fin 2048, xs q (ix2 r a) * weight sc wb ⟨2048 * q.val + a.val, by have := q.isLt; have := a.isLt; omega⟩ c := by
  unfold addSlice
  rw [dot2048_apply]
  simp only [wSlice_apply]

/-- Twice the low-rank term, element by element. -/
theorem low_apply (r : Fin 384) (c : Fin 512) : k0_pay16 tt lb (ix2 r c)
    = Ideal.ofBits .f32 0x40000000#32 * ∑ q : Fin 16, tt (ix2 r q) * lb (ix2 q c) := by
  pointwise [k0_pay16]

/-- Seven sums of 2048 terms and one of 512 added in turn to a number are the sum of all 14848 terms and the number. -/
theorem sum_slices (f : ℕ → EReal) (z : EReal) :
    z + ∑ a : Fin 2048, f (2048 * 0 + a.val) + ∑ a : Fin 2048, f (2048 * 1 + a.val) + ∑ a : Fin 2048, f (2048 * 2 + a.val)
      + ∑ a : Fin 2048, f (2048 * 3 + a.val) + ∑ a : Fin 2048, f (2048 * 4 + a.val) + ∑ a : Fin 2048, f (2048 * 5 + a.val)
      + ∑ a : Fin 2048, f (2048 * 6 + a.val) + ∑ a : Fin 512, f (14336 + a.val)
      = (∑ k : Fin 14848, f k.val) + z := by
  have h : ∀ n q : ℕ, ∑ a : Fin n, f (q + a.val) = ∑ a ∈ Finset.range n, f (q + a) := fun n q => Fin.sum_univ_eq_sum_range (fun a => f (q + a)) n
  have s : ∀ n k : ℕ, ∑ a ∈ Finset.range n, f a + ∑ a ∈ Finset.range k, f (n + a) = ∑ a ∈ Finset.range (n + k), f a := fun n k => (Finset.sum_range_add f n k).symm
  rw [Fin.sum_univ_eq_sum_range f 14848]
  simp only [h]
  have e := s (2048 * 1) 2048
  have e2 := s (2048 * 2) 2048
  have e3 := s (2048 * 3) 2048
  have e4 := s (2048 * 4) 2048
  have e5 := s (2048 * 5) 2048
  have e6 := s (2048 * 6) 2048
  have e7 := s 14336 512
  norm_num at e e2 e3 e4 e5 e6 e7 ⊢
  rw [← e7, ← e6, ← e5, ← e4, ← e3, ← e2, ← e]
  ac_rfl

/-- The tile of the product, element by element. -/
theorem yBlock_apply (u : Fin 384 → Fin 14848 → EReal) (r : Fin 384) (c : Fin 512)
    (hx : ∀ q a, xs q (ix2 r a) = u r ⟨2048 * q.val + a.val, by have := q.isLt; have := a.isLt; omega⟩)
    (hl : ∀ a, xl (ix2 r a) = u r ⟨14336 + a.val, by have := a.isLt; omega⟩) :
    yBlock sc wb xs xl tt lb (ix2 r c)
      = (∑ k : Fin 14848, u r k * weight sc wb k c) + Ideal.ofBits .f32 0x40000000#32 * ∑ q : Fin 16, tt (ix2 r q) * lb (ix2 q c) := by
  unfold yBlock
  rw [dot512_apply]
  simp only [addSlice_apply, low_apply, wLast_apply, hx, hl]
  have h := sum_slices (fun k => if h : k < 14848 then u r ⟨k, h⟩ * weight sc wb ⟨k, h⟩ c else 0)
    (Ideal.ofBits .f32 0x40000000#32 * ∑ q : Fin 16, tt (ix2 r q) * lb (ix2 q c))
  have d : ∀ (k : ℕ) (hk : k < 14848), (if h : k < 14848 then u r ⟨k, h⟩ * weight sc wb ⟨k, h⟩ c else 0) = u r ⟨k, hk⟩ * weight sc wb ⟨k, hk⟩ c :=
    fun k hk => dif_pos hk
  have hs : ∀ (q : Fin 7) (n : ℕ) (hn : q.val = n), ∑ a : Fin 2048, u r ⟨2048 * q.val + a.val, by have := q.isLt; have := a.isLt; omega⟩
        * weight sc wb ⟨2048 * q.val + a.val, by have := q.isLt; have := a.isLt; omega⟩ c
      = ∑ a : Fin 2048, (if h : 2048 * n + a.val < 14848 then u r ⟨2048 * n + a.val, h⟩ * weight sc wb ⟨2048 * n + a.val, h⟩ c else 0) := by
    intro q n hn
    subst hn
    exact Finset.sum_congr rfl fun a _ => (d _ _).symm
  have hl' : ∑ a : Fin 512, u r ⟨14336 + a.val, by have := a.isLt; omega⟩ * weight sc wb ⟨14336 + a.val, by have := a.isLt; omega⟩ c
      = ∑ a : Fin 512, (if h : 14336 + a.val < 14848 then u r ⟨14336 + a.val, h⟩ * weight sc wb ⟨14336 + a.val, h⟩ c else 0) :=
    Finset.sum_congr rfl fun a _ => (d _ _).symm
  have hk : ∑ k : Fin 14848, u r k * weight sc wb k c
      = ∑ k : Fin 14848, (if h : k.val < 14848 then u r ⟨k.val, h⟩ * weight sc wb ⟨k.val, h⟩ c else 0) :=
    Finset.sum_congr rfl fun k _ => (d _ k.isLt).symm
  rw [hs 0 0 rfl, hs 1 1 rfl, hs 2 2 rfl, hs 3 3 rfl, hs 4 4 rfl, hs 5 5 rfl, hs 6 6 rfl, hl', hk]
  exact h

end

/-- The tile a grid point stores, element by element: the product of the activations `xd` and the dequantised weights, plus twice
    the low-rank term. -/
theorem yTile_apply (i : grid0.Coords) (x0 : Vec Ideal S116x64 .f32) (x2 : Vec Ideal S14848x512 .fp8e4m3) (x4 : Vec Ideal S16x512 .bf16)
    (xd : Vec Ideal S384x14848 .bf16) (tt : Vec Ideal S384x16 .bf16) (r : Fin 384) (c : Fin 512) :
    yTile i x0 x2 x4 xd tt (ix2 r c)
      = (∑ k : Fin 14848, xd (ix2 r k) * (x2 (ix2 k c)
          * x0 (ix2 ⟨k.val / 128, by have := k.isLt; omega⟩ ⟨4 * (i 0).val + c.val / 128, by have := coord_lt i; have := c.isLt; omega⟩)))
        + Ideal.ofBits .f32 0x40000000#32 * ∑ q : Fin 16, tt (ix2 r q) * x4 (ix2 q c) := by
  unfold yTile
  refine (yBlock_apply _ _ _ _ _ _ (fun r k => xd (ix2 r k)) r c (fun _ _ => rfl) (fun _ => rfl)).trans ?_
  refine congrArg (fun v : EReal => v + Ideal.ofBits .f32 0x40000000#32 * ∑ q : Fin 16, tt (ix2 r q) * x4 (ix2 q c)) ?_
  refine Finset.sum_congr rfl fun k _ => ?_
  refine congrArg (fun v : EReal => xd (ix2 r k) * v) ?_
  have hx : (ix2 ⟨128 * (k.val / 128) + k.val % 128, by have := k.isLt; omega⟩ ⟨128 * (c.val / 128) + c.val % 128, by have := c.isLt; omega⟩ : S14848x512.Idx)
      = ix2 k c := by
    funext a
    match a with
    | ⟨0, _⟩ => exact Fin.ext (by show 128 * (k.val / 128) + k.val % 128 = k.val; omega)
    | ⟨1, _⟩ => exact Fin.ext (by show 128 * (c.val / 128) + c.val % 128 = c.val; omega)
  rw [← hx]
  rfl

end Cert.Fp8

end
-- ==== Proof.Arrays.lean ====
/- What the idealized kernel's three result arrays hold after the run, as functions of its arguments. -/
module

public import proofs.«01_k».proof.Proof.Frame
public import proofs.«01_k».proof.Proof.Quant
public import proofs.«01_k».proof.Proof.Product

@[expose] public section

set_option maxRecDepth 16384

noncomputable section

namespace Cert.Fp8

open Idealize.ShloMosaic Idealize.ShloMosaic.TcCoe
open Idealize.SL Idealize.SL.Sem
open Cert.KernelIdeal Cert.KernelIdeal.Gen
open Idealize.ShloMosaic.Pipeline (Dat Cfg Window)

variable (m : (ℓ : Loc nD τ sig) → Buf (Elt Ideal) ℓ) (c : Dev nD)

/-- The activations. -/
abbrev argX : Vec Ideal S1x384x14848 .bf16 := m ((c : Thread nD τ).loc main_arg0)
/-- The weights' codes. -/
abbrev argW : Vec Ideal S14848x8192 .fp8e4m3 := m ((c : Thread nD τ).loc main_arg1)
/-- The weights' scales. -/
abbrev argS : Vec Ideal S116x64 .f32 := m ((c : Thread nD τ).loc main_arg2)
/-- The first low-rank factor. -/
abbrev argA : Vec Ideal S14848x16 .bf16 := m ((c : Thread nD τ).loc main_arg3)
/-- The second low-rank factor. -/
abbrev argB : Vec Ideal S16x8192 .bf16 := m ((c : Thread nD τ).loc main_arg4)

/-! ## What the region reads -/

/-- The activations cast to two axes. -/
theorem flat_eq (x : Vec Ideal S1x384x14848 .bf16) : shapeCast S384x14848 x shapeCasts_S1x384x14848_S384x14848 = flat x := by
  funext j
  exact shapeCast_apply _ _ _ (ix3 0 (j 0) (j 1)) (by
    rw [Shape.rowMajor_val_three, Shape.rowMajor_val_two]
    show (0 * 384 + (j 0).val) * 14848 + (j 1).val = (j 0).val * 14848 + (j 1).val
    omega)

/-- The region finds the activations without their leading axis. -/
theorem V_main_v0 : V m c main_v0 = flat (argX m c) := by
  show StableHlo.after [StableHlo.reshape main_arg0 main_v0 rfl shapeCasts_S1x384x14848_S384x14848] _ _ = _
  rw [StableHlo.after_cons, StableHlo.after_nil, StableHlo.reshape_result]
  exact flat_eq (argX m c)

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = t.val := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
/-- A grid point's coordinate is its number. -/
theorem coord_eq : ∀ t : Fin cfg0.N, (grid0.coords t 0).val = t.val := (by decide +kernel : ∀ t : Fin grid0.N, _)

theorem t_lt (t : Fin cfg0.N) : t.val < 16 := Nat.lt_of_lt_of_eq t.isLt N_0

/-- Column `b` of tile `t`. -/
abbrev tcol (t : Fin cfg0.N) (b : Fin 512) : Fin 8192 := ⟨512 * t.val + b.val, by have := t_lt t; have := b.isLt; omega⟩

theorem emb0 (t : Fin cfg0.N) (j : S116x64.Idx) : ((cfg0.win 0).blk t).view.emb j = j := by
  obtain ⟨e0, e1⟩ := idx0 t
  funext a; apply Fin.ext
  match a with
  | ⟨0, _⟩ => show win0_0.index t (0 : Fin 2) * 116 + 1 * (j 0).val = (j 0).val; omega
  | ⟨1, _⟩ => show win0_0.index t (1 : Fin 2) * 64 + 1 * (j 1).val = (j 1).val; omega

theorem emb1 (t : Fin cfg0.N) (j : S384x14848.Idx) : ((cfg0.win 1).blk t).view.emb j = j := by
  obtain ⟨e0, e1⟩ := idx1 t
  funext a; apply Fin.ext
  match a with
  | ⟨0, _⟩ => show win0_1.index t (0 : Fin 2) * 384 + 1 * (j 0).val = (j 0).val; omega
  | ⟨1, _⟩ => show win0_1.index t (1 : Fin 2) * 14848 + 1 * (j 1).val = (j 1).val; omega

theorem emb2 (t : Fin cfg0.N) (k : Fin 14848) (b : Fin 512) : ((cfg0.win 2).blk t).view.emb (ix2 k b : S14848x512.Idx) = (ix2 k (tcol t b) : S14848x8192.Idx) := by
  obtain ⟨e0, e1⟩ := idx2 t
  funext a; apply Fin.ext
  match a with
  | ⟨0, _⟩ => show win0_2.index t (0 : Fin 2) * 14848 + 1 * k.val = k.val; omega
  | ⟨1, _⟩ => show win0_2.index t (1 : Fin 2) * 512 + 1 * b.val = 512 * t.val + b.val; omega

theorem emb3 (t : Fin cfg0.N) (j : S14848x16.Idx) : ((cfg0.win 3).blk t).view.emb j = j := by
  obtain ⟨e0, e1⟩ := idx3 t
  funext a; apply Fin.ext
  match a with
  | ⟨0, _⟩ => show win0_3.index t (0 : Fin 2) * 14848 + 1 * (j 0).val = (j 0).val; omega
  | ⟨1, _⟩ => show win0_3.index t (1 : Fin 2) * 16 + 1 * (j 1).val = (j 1).val; omega

theorem emb4 (t : Fin cfg0.N) (q : Fin 16) (b : Fin 512) : ((cfg0.win 4).blk t).view.emb (ix2 q b : S16x512.Idx) = (ix2 q (tcol t b) : S16x8192.Idx) := by
  obtain ⟨e0, e1⟩ := idx4 t
  funext a; apply Fin.ext
  match a with
  | ⟨0, _⟩ => show win0_4.index t (0 : Fin 2) * 16 + 1 * q.val = q.val; omega
  | ⟨1, _⟩ => show win0_4.index t (1 : Fin 2) * 512 + 1 * b.val = 512 * t.val + b.val; omega

theorem emb5 (t : Fin cfg0.N) (j : S384x512.Idx) : ((cfg0.win 5).blk t).view.emb j = (ix2 (j 0) (tcol t (j 1)) : S384x8192.Idx) := by
  obtain ⟨e0, e1⟩ := idx5 t
  funext a; apply Fin.ext
  match a with
  | ⟨0, _⟩ => show win0_5.index t (0 : Fin 2) * 384 + 1 * (j 0).val = (j 0).val; omega
  | ⟨1, _⟩ => show win0_5.index t (1 : Fin 2) * 512 + 1 * (j 1).val = 512 * t.val + (j 1).val; omega

theorem emb6 (t : Fin cfg0.N) (j : S384x14848.Idx) : ((cfg0.win 6).blk t).view.emb j = j := by
  obtain ⟨e0, e1⟩ := idx6 t
  funext a; apply Fin.ext
  match a with
  | ⟨0, _⟩ => show win0_6.index t (0 : Fin 2) * 384 + 1 * (j 0).val = (j 0).val; omega
  | ⟨1, _⟩ => show win0_6.index t (1 : Fin 2) * 14848 + 1 * (j 1).val = (j 1).val; omega

theorem emb7 (t : Fin cfg0.N) (j : S384x128.Idx) : ((cfg0.win 7).blk t).view.emb j = j := by
  obtain ⟨e0, e1⟩ := idx7 t
  funext a; apply Fin.ext
  match a with
  | ⟨0, _⟩ => show win0_7.index t (0 : Fin 2) * 384 + 1 * (j 0).val = (j 0).val; omega
  | ⟨1, _⟩ => show win0_7.index t (1 : Fin 2) * 128 + 1 * (j 1).val = (j 1).val; omega

/-- Every point's block of scales is the whole table. -/
theorem iblk0_eq (t : Fin cfg0.N) : iblk m c 0 t = argS m c := by
  refine Eq.trans ?_ (V_main_arg2 m c)
  funext j; show V m c main_arg2 (((cfg0.win 0).blk t).view.emb j) = V m c main_arg2 j; rw [emb0]

/-- Every point's block of activations is all of them. -/
theorem iblk1_eq (t : Fin cfg0.N) : iblk m c 1 t = flat (argX m c) := by
  refine Eq.trans ?_ (V_main_v0 m c)
  funext j; show V m c main_v0 (((cfg0.win 1).blk t).view.emb j) = V m c main_v0 j; rw [emb1]

/-- A point's tile of weights. -/
theorem iblk2_apply (t : Fin cfg0.N) (k : Fin 14848) (b : Fin 512) : (iblk m c 2 t : Vec Ideal S14848x512 .fp8e4m3) (ix2 k b) = argW m c (ix2 k (tcol t b)) := by
  refine Eq.trans ?_ (congrFun (V_main_arg1 m c) (ix2 k (tcol t b) : S14848x8192.Idx))
  show V m c main_arg1 (((cfg0.win 2).blk t).view.emb (ix2 k b : S14848x512.Idx)) = _
  rw [emb2]

/-- Every point's block of the first low-rank factor is all of it. -/
theorem iblk3_eq (t : Fin cfg0.N) : iblk m c 3 t = argA m c := by
  refine Eq.trans ?_ (V_main_arg3 m c)
  funext j; show V m c main_arg3 (((cfg0.win 3).blk t).view.emb j) = V m c main_arg3 j; rw [emb3]

/-- A point's tile of the second low-rank factor. -/
theorem iblk4_apply (t : Fin cfg0.N) (q : Fin 16) (b : Fin 512) : (iblk m c 4 t : Vec Ideal S16x512 .bf16) (ix2 q b) = argB m c (ix2 q (tcol t b)) := by
  refine Eq.trans ?_ (congrFun (V_main_arg4 m c) (ix2 q (tcol t b) : S16x8192.Idx))
  show V m c main_arg4 (((cfg0.win 4).blk t).view.emb (ix2 q b : S16x512.Idx)) = _
  rw [emb4]

/-! ## The result arrays -/

/-- The low-rank activations, element by element. -/
theorem tFirst_apply (r : Fin 384) (q : Fin 16) : tFirst m c (ix2 r q) = ∑ k : Fin 14848, flat (argX m c) (ix2 r k) * argA m c (ix2 k q) := by
  have h : ∀ (a : Vec Ideal S384x14848 .bf16) (b : Vec Ideal S14848x16 .bf16), k0_pay15 a b (ix2 r q) = ∑ k : Fin 14848, a (ix2 r k) * b (ix2 k q) := by
    intro a b
    pointwise [k0_pay15]
  unfold tFirst xFirst laFirst
  rw [iblk1_eq, iblk3_eq, h]

/-- The product of the dequantised activations and weights, plus twice the low-rank term. -/
def yV (x : Vec Ideal S1x384x14848 .bf16) (w : Vec Ideal S14848x8192 .fp8e4m3) (s : Vec Ideal S116x64 .f32) (la : Vec Ideal S14848x16 .bf16)
    (lb : Vec Ideal S16x8192 .bf16) (r : Fin 384) (b : Fin 8192) : EReal :=
  (∑ k : Fin 14848, deqV (flat x) (ix2 r k) * (w (ix2 k b) * s (ix2 (Ref.grp k) ⟨b.val / 128, by have := b.isLt; omega⟩)))
    + Ideal.ofBits .f32 0x40000000#32 * ∑ q : Fin 16, (∑ k : Fin 14848, flat x (ix2 r k) * la (ix2 k q)) * lb (ix2 q b)

/-- The tile the point `t` stores is its columns of the product. -/
theorem tile_eq (t : Fin cfg0.N) (r : Fin 384) (b : Fin 512) :
    yTile (grid0.coords t) (iblk m c 0 t) (iblk m c 2 t) (iblk m c 4 t) (deqV (xFirst m c)) (tFirst m c) (ix2 r b)
      = yV (argX m c) (argW m c) (argS m c) (argA m c) (argB m c) r (tcol t b) := by
  rw [yTile_apply]
  have hx : xFirst m c = flat (argX m c) := iblk1_eq m c t0_0
  have hc : ∀ k : Fin 14848, (ix2 ⟨k.val / 128, by have := k.isLt; omega⟩ ⟨4 * (grid0.coords t 0).val + b.val / 128, by have := coord_lt (grid0.coords t); have := b.isLt; omega⟩ : S116x64.Idx)
      = ix2 (Ref.grp k) ⟨(tcol t b).val / 128, by have := (tcol t b).isLt; omega⟩ := by
    intro k
    funext a
    match a with
    | ⟨0, _⟩ => rfl
    | ⟨1, _⟩ => exact Fin.ext (by
        show 4 * (grid0.coords t 0).val + b.val / 128 = (512 * t.val + b.val) / 128
        rw [coord_eq t]; omega)
  simp only [iblk0_eq, iblk2_apply, iblk4_apply, tFirst_apply, hx, hc]
  rfl

/-- The same at any index of the tile. -/
theorem tile_at (t : Fin cfg0.N) (j : S384x512.Idx) :
    yTile (grid0.coords t) (iblk m c 0 t) (iblk m c 2 t) (iblk m c 4 t) (deqV (xFirst m c)) (tFirst m c) j
      = yV (argX m c) (argW m c) (argS m c) (argA m c) (argB m c) (j 0) (tcol t (j 1)) := by
  have hj : j = ix2 (j 0) (j 1) := by
    funext a
    match a with
    | ⟨0, _⟩ => rfl
    | ⟨1, _⟩ => rfl
  conv_lhs => rw [hj]
  exact tile_eq m c t (j 0) (j 1)

/-- The first result array after the run. -/
theorem final5 : (dats m 0 c).arrAt 5 cfg0.N
    = (fun j => yV (argX m c) (argW m c) (argS m c) (argA m c) (argB m c) (j 0) (j 1) : Vec Ideal S384x8192 .bf16) := by
  refine (dats m 0 c).arrAt_eq_of_cover 5 (fun j => yV (argX m c) (argW m c) (argS m c) (argA m c) (argB m c) (j 0) (j 1) : Vec Ideal S384x8192 .bf16) (fun t _ => ?_) (fun i => ?_)
  · show (cfg0.win 5).cut (grid0.coords t) ((dats m 0 c).after 5 t) = _
    rw [after_5]
    funext j
    refine (tile_at m c t j).trans ?_
    show _ = (fun j => yV (argX m c) (argW m c) (argS m c) (argA m c) (argB m c) (j 0) (j 1) : Vec Ideal S384x8192 .bf16) (((cfg0.win 5).blk t).view.emb (j : S384x512.Idx))
    rw [emb5]
    rfl
  · have h1 : (i 1).val < 8192 := (i 1).isLt
    refine ⟨(⟨(i 1).val / 512, by rw [show cfg0.N = 16 from N_0]; omega⟩ : Fin cfg0.N), flush0_5 _, ?_⟩
    have h := ((cfg0.win 5).blk (⟨(i 1).val / 512, by rw [show cfg0.N = 16 from N_0]; omega⟩ : Fin cfg0.N)).view.emb_mem_set
      (ix2 (i 0 : Fin 384) (⟨(i 1).val % 512, Nat.mod_lt _ (by decide)⟩ : Fin 512) : S384x512.Idx)
    have e : (ix2 (i 0 : Fin 384) (tcol ⟨(i 1).val / 512, by rw [show cfg0.N = 16 from N_0]; omega⟩ ⟨(i 1).val % 512, Nat.mod_lt _ (by decide)⟩) : S384x8192.Idx) = i := by
      funext a
      match a with
      | ⟨0, _⟩ => rfl
      | ⟨1, _⟩ => exact Fin.ext (by show 512 * ((i 1).val / 512) + (i 1).val % 512 = (i 1).val; omega)
    have e' := (emb5 (⟨(i 1).val / 512, by rw [show cfg0.N = 16 from N_0]; omega⟩ : Fin cfg0.N)
      (ix2 (i 0 : Fin 384) (⟨(i 1).val % 512, Nat.mod_lt _ (by decide)⟩ : Fin 512) : S384x512.Idx)).trans e
    rwa [e'] at h

/-- The last grid point. -/
abbrev tLast : Fin cfg0.N := ⟨15, by rw [show cfg0.N = 16 from N_0]; decide⟩

/-- The second result array after the run. -/
theorem final6 : (dats m 0 c).arrAt 6 cfg0.N = codesV (flat (argX m c)) := by
  refine (dats m 0 c).arrAt_eq_of_cover 6 (codesV (flat (argX m c))) (fun t _ => ?_) (fun i => ?_)
  · show (cfg0.win 6).cut (grid0.coords t) ((dats m 0 c).after 6 t) = _
    rw [after_6, show xFirst m c = flat (argX m c) from iblk1_eq m c t0_0]
    funext j
    show codesV (flat (argX m c)) (j : S384x14848.Idx) = codesV (flat (argX m c)) (((cfg0.win 6).blk t).view.emb (j : S384x14848.Idx))
    rw [emb6]
  · refine ⟨tLast, (flush0_6 tLast).mpr rfl, ?_⟩
    have h := ((cfg0.win 6).blk tLast).view.emb_mem_set (i : S384x14848.Idx)
    rwa [emb6] at h

/-- The third result's array after the run: a lane for each group, and twelve more. -/
theorem final7 : (dats m 0 c).arrAt 7 cfg0.N = scalesN (flat (argX m c)) 116 := by
  refine (dats m 0 c).arrAt_eq_of_cover 7 (scalesN (flat (argX m c)) 116) (fun t _ => ?_) (fun i => ?_)
  · show (cfg0.win 7).cut (grid0.coords t) ((dats m 0 c).after 7 t) = _
    rw [after_7, show xFirst m c = flat (argX m c) from iblk1_eq m c t0_0]
    funext j
    show scalesN (flat (argX m c)) 116 (j : S384x128.Idx) = scalesN (flat (argX m c)) 116 (((cfg0.win 7).blk t).view.emb (j : S384x128.Idx))
    rw [emb7]
  · refine ⟨tLast, (flush0_7 tLast).mpr rfl, ?_⟩
    have h := ((cfg0.win 7).blk tLast).view.emb_mem_set (i : S384x128.Idx)
    rwa [emb7] at h

end Cert.Fp8

end
-- ==== Proof.Results.lean ====
/- The idealized kernel's three results after the run: for activations in range they are the reference's. -/
module

public import proofs.«01_k».proof.Proof.Arrays

@[expose] public section

set_option maxRecDepth 16384

noncomputable section

namespace Cert.Fp8

open Idealize.ShloMosaic Idealize.ShloMosaic.TcCoe
open Idealize.SL Idealize.SL.Sem
open Cert.KernelIdeal Cert.KernelIdeal.Gen
open Idealize.ShloMosaic.Pipeline (Dat Cfg Window)

/-- An index of three axes of which the first has one element. -/
theorem exists_ix3 {n k : ℕ} (j : (⟨3, ![1, n, k]⟩ : Shape).Idx) : ∃ (r : Fin n) (b : Fin k), j = ix3 0 r b := by
  refine ⟨j 1, j 2, ?_⟩
  funext a
  match a with
  | ⟨0, _⟩ => exact Subsingleton.elim (α := Fin 1) _ _
  | ⟨1, _⟩ => rfl
  | ⟨2, _⟩ => rfl

/-- The first result: the product. -/
def outY (x : Vec Ideal S1x384x14848 .bf16) (w : Vec Ideal S14848x8192 .fp8e4m3) (s : Vec Ideal S116x64 .f32) (la : Vec Ideal S14848x16 .bf16)
    (lb : Vec Ideal S16x8192 .bf16) : Vec Ideal S1x384x8192 .bf16 := fun j => Ref.prod x w s la lb (j 1) (j 2)

/-- The second result: the codes. -/
def outCodes (x : Vec Ideal S1x384x14848 .bf16) : Vec Ideal S1x384x14848 .fp8e4m3 := fun j => Ref.code x (j 1) (j 2)

/-- The third result: the scales. -/
def outScales (x : Vec Ideal S1x384x14848 .bf16) : Vec Ideal S1x384x116 .f32 := fun j => Ref.scale x (j 1) (j 2)

/-- The kernel's product is the reference's. -/
theorem yV_eq (x : Vec Ideal S1x384x14848 .bf16) (hx : InRange x) (w : Vec Ideal S14848x8192 .fp8e4m3) (s : Vec Ideal S116x64 .f32)
    (la : Vec Ideal S14848x16 .bf16) (lb : Vec Ideal S16x8192 .bf16) (r : Fin 384) (b : Fin 8192) : yV x w s la lb r b = Ref.prod x w s la lb r b := by
  unfold yV Ref.prod
  simp only [deq_eq x hx]
  rfl

/-- The product with a leading axis. -/
theorem cast_y (u : Vec Ideal S384x8192 .bf16) (v : Vec Ideal S1x384x8192 .bf16) (h : ∀ r b, u (ix2 r b) = v (ix3 0 r b)) :
    shapeCast S1x384x8192 u shapeCasts_S384x8192_S1x384x8192 = v := by
  funext j
  obtain ⟨r, b, rfl⟩ := exists_ix3 j
  rw [← h]
  exact shapeCast_apply _ _ _ _ (by
    rw [Shape.rowMajor_val_three, Shape.rowMajor_val_two]
    show r.val * 8192 + b.val = (0 * 384 + r.val) * 8192 + b.val
    omega)

/-- The codes with a leading axis. -/
theorem cast_codes (u : Vec Ideal S384x14848 .fp8e4m3) (v : Vec Ideal S1x384x14848 .fp8e4m3) (h : ∀ r k, u (ix2 r k) = v (ix3 0 r k)) :
    shapeCast S1x384x14848 u shapeCasts_S384x14848_S1x384x14848 = v := by
  funext j
  obtain ⟨r, b, rfl⟩ := exists_ix3 j
  rw [← h]
  exact shapeCast_apply _ _ _ _ (by
    rw [Shape.rowMajor_val_three, Shape.rowMajor_val_two]
    show r.val * 14848 + b.val = (0 * 384 + r.val) * 14848 + b.val
    omega)

/-- The first 116 lanes of scales with a leading axis. -/
theorem cast_scales (u : Vec Ideal S384x128 .f32) (v : Vec Ideal S1x384x116 .f32)
    (h : ∀ (r : Fin 384) (g : Fin 116), u (ix2 r ⟨g.val, by have := g.isLt; omega⟩) = v (ix3 0 r g)) :
    shapeCast S1x384x116 (extractStridedSlice S384x116 ![0, 0] u slices_S384x128_S384x116_0_0) shapeCasts_S384x116_S1x384x116 = v := by
  funext j
  obtain ⟨r, b, rfl⟩ := exists_ix3 j
  rw [← h]
  refine (shapeCast_apply _ _ _ (ix2 r b) (by
    rw [Shape.rowMajor_val_three, Shape.rowMajor_val_two]
    show r.val * 116 + b.val = (0 * 384 + r.val) * 116 + b.val
    omega)).trans ?_
  refine congrArg u (funext fun a => Fin.ext ?_)
  match a with
  | ⟨0, _⟩ => show 0 + r.val = r.val; omega
  | ⟨1, _⟩ => show 0 + b.val = b.val; omega

variable (m : (ℓ : Loc nD τ sig) → Buf (Elt Ideal) ℓ) (ρ : Dev nD → PrngReg) (c : Dev nD)

/-- The buffers as the region leaves them. -/
abbrev U : Valuation τ sig (Elt Ideal) := Pipeline.withArrays spec0 c (V0 m c) fun w => (dats m 0 c).arrAt w cfg0.N

theorem U_5 : U m c (Proc.devRef .tc main_v1_0) = (dats m 0 c).arrAt 5 cfg0.N := Pipeline.withArrays_arr spec0 (by decide) c (V0 m c) _ 5
theorem U_6 : U m c (Proc.devRef .tc main_v1_1) = (dats m 0 c).arrAt 6 cfg0.N := Pipeline.withArrays_arr spec0 (by decide) c (V0 m c) _ 6
theorem U_7 : U m c (Proc.devRef .tc main_v1_2) = (dats m 0 c).arrAt 7 cfg0.N := Pipeline.withArrays_arr spec0 (by decide) c (V0 m c) _ 7

/-- What the host leaves of the first result. -/
theorem tail_y (hx : InRange (argX m c)) : Pipeline.afterTail₀ cfgs (dats m) 0 (V0 m) [hostOps1] c main_v2
    = outY (argX m c) (argW m c) (argS m c) (argA m c) (argB m c) := by
  show StableHlo.after hostOps1 (U m c) (Proc.devRef .tc main_v2) = _
  rw [StableHlo.after_cons, StableHlo.after_cons, StableHlo.after_cons, StableHlo.after_cons, StableHlo.after_nil,
    StableHlo.reshape_result_ne (h := by decide), StableHlo.unary_result_ne (h := by decide), StableHlo.reshape_result_ne (h := by decide), StableHlo.reshape_result, U_5, final5]
  exact cast_y _ _ fun r b => yV_eq (argX m c) hx (argW m c) (argS m c) (argA m c) (argB m c) r b

/-- What the host leaves of the second result. -/
theorem tail_codes (hx : InRange (argX m c)) : Pipeline.afterTail₀ cfgs (dats m) 0 (V0 m) [hostOps1] c main_v3 = outCodes (argX m c) := by
  show StableHlo.after hostOps1 (U m c) (Proc.devRef .tc main_v3) = _
  rw [StableHlo.after_cons, StableHlo.after_cons, StableHlo.after_cons, StableHlo.after_cons, StableHlo.after_nil,
    StableHlo.reshape_result_ne (h := by decide), StableHlo.unary_result_ne (h := by decide), StableHlo.reshape_result, StableHlo.reshape_result_ne (h := by decide), U_6, final6]
  exact cast_codes _ _ fun r k => codes_eq (argX m c) hx r k

/-- What the host leaves of the third result. -/
theorem tail_scales (hx : InRange (argX m c)) : Pipeline.afterTail₀ cfgs (dats m) 0 (V0 m) [hostOps1] c main_v5 = outScales (argX m c) := by
  show StableHlo.after hostOps1 (U m c) (Proc.devRef .tc main_v5) = _
  rw [StableHlo.after_cons, StableHlo.after_cons, StableHlo.after_cons, StableHlo.after_cons, StableHlo.after_nil,
    StableHlo.reshape_result, StableHlo.unary_result, StableHlo.reshape_result_ne (h := by decide), StableHlo.reshape_result_ne (h := by decide), U_7, final7]
  exact cast_scales _ _ fun r g => scalesN_apply (argX m c) hx r g 116 le_rfl g.isLt

/-- The run of the kernel: for activations in range its results are the product, the codes and the scales, and its arguments end unchanged. -/
theorem run (hx : ∀ c, InRange (argX m c)) : θ_run defs (onTc (τ := τ) (main (F := Ideal))) ⟨m, fun _ => 0, ρ⟩ (fun r => ∀ c : Dev nD,
      r.2.mem ((c.tc : Thread nD τ).loc main_v2) = outY (argX m c) (argW m c) (argS m c) (argA m c) (argB m c)
      ∧ r.2.mem ((c.tc : Thread nD τ).loc main_v3) = outCodes (argX m c)
      ∧ r.2.mem ((c.tc : Thread nD τ).loc main_v5) = outScales (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h.1.1 c).2 main_v2 (Pipeline.mem_restRefs_of main_v2 (by decide) (by decide))).trans (tail_y m c (hx c)),
        ((h.1.1 c).2 main_v3 (Pipeline.mem_restRefs_of main_v3 (by decide) (by decide))).trans (tail_codes m c (hx c)),
        ((h.1.1 c).2 main_v5 (Pipeline.mem_restRefs_of main_v5 (by decide) (by decide))).trans (tail_scales m c (hx c)), h.2.1 c⟩)
    (θ_run_and (run_main m ρ) (frame m ρ))

end Cert.Fp8

end
-- ==== Proof.Equation.lean ====
/- The value claim: for activations in range, the idealized kernel and the idealized reference give the same results. -/
module

public import proofs.«01_k».proof.Defs
public import proofs.«01_k».proof.Proof.Results
public import proofs.«01_k».proof.Proof.Gen.Pre_finite

@[expose] public section

set_option maxRecDepth 16384

noncomputable section

namespace Cert.Fp8

open Idealize.ShloMosaic Idealize.ShloMosaic.TcCoe
open Idealize.SL Idealize.SL.Sem

/-- The reference's first result. -/
theorem ref_y (x : Vec Ideal Cert.ReferenceIdeal.S1x384x14848 .bf16) (w : Vec Ideal Cert.ReferenceIdeal.S14848x8192 .fp8e4m3)
    (s : Vec Ideal Cert.ReferenceIdeal.S116x64 .f32) (la : Vec Ideal Cert.ReferenceIdeal.S14848x16 .bf16) (lb : Vec Ideal Cert.ReferenceIdeal.S16x8192 .bf16) :
    Cert.RefRun.G5 x w s la lb = outY x w s la lb := by
  funext j
  obtain ⟨r, b, rfl⟩ := exists_ix3 j
  exact Ref.pay1_apply x w s la lb r b

/-- The reference's second result. -/
theorem ref_codes (x : Vec Ideal Cert.ReferenceIdeal.S1x384x14848 .bf16) : Cert.ReferenceIdeal.Gen.k0_pay5 x = outCodes x := by
  funext j
  obtain ⟨r, k, rfl⟩ := exists_ix3 j
  exact Ref.pay5_apply x r k

/-- The reference's third result. -/
theorem ref_scales (x : Vec Ideal Cert.ReferenceIdeal.S1x384x14848 .bf16) : Cert.ReferenceIdeal.Gen.k0_pay4 x = outScales x := by
  funext j
  obtain ⟨r, g, rfl⟩ := exists_ix3 j
  exact Ref.pay4_apply x r g

/-- The precondition of an array of activations says that they are in range. -/
theorem inRange_of (x : Vec Ideal Cert.KernelIdeal.S1x384x14848 .bf16) (w : Vec Ideal Cert.KernelIdeal.S14848x8192 .fp8e4m3) (s : Vec Ideal Cert.KernelIdeal.S116x64 .f32)
    (la : Vec Ideal Cert.KernelIdeal.S14848x16 .bf16) (lb : Vec Ideal Cert.KernelIdeal.S16x8192 .bf16)
    [h : Cert.Pre_finite.Facts] (hp : Cert.Pre_finite.fn (F := Ideal) x w s la lb = fun _ => 1#1) : InRange x := by
  intro r k
  have e : Ideal.cmp .ole (max (x (ix3 0 r k)) (-(x (ix3 0 r k)))) (Ideal.ofBits .f32 0x7F7F0000#32) = 1#1 := congrFun hp (ix3 0 r k)
  by_contra hn
  simp [Ideal.cmp, hn] at e

/-- The kernel and the reference, run from the same arguments with activations in range, end with equal results and their arguments unchanged. -/
theorem algebraic [hK : Cert.KernelIdeal.Facts] [hR : Cert.ReferenceIdeal.Facts] [hP : Cert.Pre_finite.Facts] :
    Cert.algebraic_KernelIdeal_ReferenceIdeal_pre_finite := by
  intro m g m' g' hpre hargs
  have hx : ∀ c, InRange (argX m c) := fun c => inRange_of _ _ _ _ _ (hpre c)
  refine ⟨fun c => outY (argX m c) (argW m c) (argS m c) (argA m c) (argB m c), fun c => outCodes (argX m c), fun c => outScales (argX m c),
    run m g hx, (θ_run _ _ _).mono (fun r h c => ?_) (Cert.RefRun.run m' g')⟩
  obtain ⟨h0, h1, h2, hk⟩ := h c
  obtain ⟨a0, a1, a2, a3, a4⟩ := hargs c
  refine ⟨h0.trans ?_, h1.trans ?_, h2.trans ?_, hk⟩
  · rw [a0, a1, a2, a3, a4]
    exact ref_y _ _ _ _ _
  · rw [a0]
    exact ref_codes _
  · rw [a0]
    exact ref_scales _

end Cert.Fp8

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import proofs.«01_k».proof.Proof.Frame
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem

/-- The kernel's, the idealized kernel's and the idealized reference's runs terminate without a fault and leave their arguments
    unchanged and every semaphore counter at zero, and the idealized kernel's and reference's results are equal. -/
theorem claim : Cert.Claim := ⟨Cert.Kernel.Gen.facts, Cert.KernelIdeal.Gen.facts, Cert.ReferenceIdeal.Gen.facts, Cert.Pre_finite.Gen.facts,
  fun m ρ _ => Cert.KernelFrame.frame m ρ,
  fun m ρ _ => Cert.Fp8.frame m ρ,
  fun m ρ _ => Cert.Fp8.frame m ρ,
  fun m ρ _ => Cert.ReferenceIdeal.Gen.frame m ρ,
  fun m ρ _ => Cert.ReferenceIdeal.Gen.frame m ρ,
  trivial,
  Cert.Fp8.algebraic⟩

end Cert.Proof

end
